-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_uncached_batch [hPre_uncached_batch : Cert.Pre_uncached_batch.Facts] (m : (ℓ : Loc Cert.KernelIdeal.nD Cert.KernelIdeal.τ Cert.KernelIdeal.sig) → Buf (Elt Ideal) ℓ) : Prop :=
  ∀ c : Dev Cert.KernelIdeal.nD,
    (Cert.Pre_uncached_batch.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_uncached_batch [hPre_uncached_batch : Cert.Pre_uncached_batch.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_uncached_batch.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_uncached_batch [hKernelIdeal : Cert.KernelIdeal.Facts] [hPre_uncached_batch : Cert.Pre_uncached_batch.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_uncached_batch m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_uncached_batch [hReferenceIdeal : Cert.ReferenceIdeal.Facts] [hPre_uncached_batch : Cert.Pre_uncached_batch.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_uncached_batch m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "eps_sq" .f32 0x179ABE15#32 ((5316911940649 / 5316911983139663491615228241121378304 : ℝ) : EReal)
  ∧ IdealRules.named_const.Statement Cert.KernelIdeal.κ "inv_temp" .f32 0x41649249#32 ((134217728 / 9395241 : ℝ) : EReal)

def algebraic_KernelIdeal_ReferenceIdeal_pre_uncached_batch [hKernelIdeal : Cert.KernelIdeal.Facts] [hReferenceIdeal : Cert.ReferenceIdeal.Facts] [hPre_uncached_batch : Cert.Pre_uncached_batch.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_uncached_batch m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_uncached_batch : Cert.Pre_uncached_batch.Facts),
    quiescent_Kernel (hKernel := hKernel)
    ∧ quiescent_KernelIdeal (hKernelIdeal := hKernelIdeal)
    ∧ quiescent_KernelIdeal_pre_uncached_batch (hKernelIdeal := hKernelIdeal) (hPre_uncached_batch := hPre_uncached_batch)
    ∧ quiescent_ReferenceIdeal (hReferenceIdeal := hReferenceIdeal)
    ∧ quiescent_ReferenceIdeal_pre_uncached_batch (hReferenceIdeal := hReferenceIdeal) (hPre_uncached_batch := hPre_uncached_batch)
    ∧ preserves_Kernel_KernelIdeal
    ∧ algebraic_KernelIdeal_ReferenceIdeal_pre_uncached_batch (hKernelIdeal := hKernelIdeal) (hReferenceIdeal := hReferenceIdeal) (hPre_uncached_batch := hPre_uncached_batch)
-- ==== Pre_uncached_batch.lean ====
abbrev S512x2x128 : Shape := ⟨3, ![512, 2, 128]⟩
abbrev S512 : Shape := ⟨1, ![512]⟩
abbrev S100000x128 : Shape := ⟨2, ![100000, 128]⟩
abbrev S100000 : Shape := ⟨1, ![100000]⟩
abbrev S_ : Shape := ⟨0, ![]⟩
abbrev S512x2 : Shape := ⟨2, ![512, 2]⟩
abbrev S512x1 : Shape := ⟨2, ![512, 1]⟩
abbrev S1 : Shape := ⟨1, ![1]⟩
abbrev S1x1 : Shape := ⟨2, ![1, 1]⟩

class Facts : Prop where
  reducesTo_S512x2x128_S512x2_d2 : S512x2x128.ReducesTo [2] S512x2
  h_S_ : 0 < S_.numel
  bcast_S_S512x2 : S_.BroadcastsInDim S512x2 (![] : Fin 0 → Fin S512x2.rank)
  bcast_S_S512 : S_.BroadcastsInDim S512 (![] : Fin 0 → Fin S512.rank)
  bcast_S512_S512x1_0 : S512.BroadcastsInDim S512x1 (![0] : Fin 1 → Fin S512x1.rank)
  bcast_S_S512x1 : S_.BroadcastsInDim S512x1 (![] : Fin 0 → Fin S512x1.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  reducesTo_S512x1_S512_d1 : S512x1.ReducesTo [1] S512
  bcast_S512x1_S512x2_0_1 : S512x1.BroadcastsInDim S512x2 (![0, 1] : Fin 2 → Fin S512x2.rank)
  gather_S100000_S512x1_S512_n_0_n_n_0_1_1_wf : GatherDims.WF S100000 S512x1 S512 [] [0] [] [0] [] 1 ![1]

variable [Facts]

def gather_S100000_S512x1_S512_n_0_n_n_0_1_1 : GatherDims S100000 S512x1 S512 where
  offsetDims := []
  collapsedSliceDims := [0]
  operandBatchingDims := []
  startIndicesBatchingDims := []
  startIndexMap := [0]
  indexVectorDim := 1
  sliceSizes := ![1]
  wf := gather_S100000_S512x1_S512_n_0_n_n_0_1_1_wf
def fn_part2 {F : FTy → Type} [FloatOps F] (main_v10 : IVec S512x2 1) (main_v35 : IVec S512x2 1) : IVec S512x2 1 :=
  let main_v36 : IVec S512x2 1 := andi main_v10 main_v35
  main_v36

def fn_part1 {F : FTy → Type} [FloatOps F] (main_arg2 : IVec S512 32) (main_arg4 : IVec S100000 1) (main_v10 : IVec S512x2 1) (main_v15 : IVec S512 1) (main_v16 : IVec S512 32) : IVec S512x2 1 :=
  let main_v17 : IVec S512 1 := cmpi .slt main_arg2 main_v16
  let main_c_5 : IVec S_ 32 := constantI S_ 32 100000#32
  let main_v18 : IVec S512 32 := broadcastInDim S512 ![] bcast_S_S512 main_c_5
  let main_v19 : IVec S512 32 := addi main_arg2 main_v18
  let main_v20 : IVec S512 32 := select main_v17 main_v19 main_arg2
  let main_v21 : IVec S512x1 32 := broadcastInDim S512x1 ![0] bcast_S512_S512x1_0 main_v20
  let main_c_6 : IVec S1 32 := constantI S1 32 99999#32
  let main_c_7 : IVec S_ 32 := constantI S_ 32 0#32
  let main_v22 : IVec S512x1 32 := broadcastInDim S512x1 ![] bcast_S_S512x1 main_c_7
  let main_v23 : IVec S512x1 1 := cmpi .sge main_v21 main_v22
  let main_v24 : IVec S1x1 32 := broadcastInDim S1x1 ![1] bcast_S1_S1x1_1 main_c_6
  let main_v25 : IVec S512x1 32 := broadcastInDim S512x1 ![0, 1] bcast_S1x1_S512x1_0_1 main_v24
  let main_v26 : IVec S512x1 1 := cmpi .sle main_v21 main_v25
  let main_v27 : IVec S512x1 1 := andi main_v23 main_v26
  let main_c_8 : IVec S_ 1 := constantI S_ 1 1#1
  let main_v28 : IVec S512 1 := (fun x v => Host.reduce IntOp.andi x v reducesTo_S512x1_S512_d1 h_S_) main_v27 main_c_8
  let main_v29 : IVec S512 1 := (fun x i => Host.gather gather_S100000_S512x1_S512_n_0_n_n_0_1_1 x i) main_arg4 main_v21
  let main_c_9 : IVec S_ 1 := constantI S_ 1 1#1
  let main_v30 : IVec S512 1 := broadcastInDim S512 ![] bcast_S_S512 main_c_9
  let main_v31 : IVec S512 1 := select main_v28 main_v29 main_v30
  let main_v32 : IVec S512 1 := noti main_v31
  let main_v33 : IVec S512 1 := andi main_v15 main_v32
  let main_v34 : IVec S512x1 1 := broadcastInDim S512x1 ![0] bcast_S512_S512x1_0 main_v33
  let main_v35 : IVec S512x2 1 := broadcastInDim S512x2 ![0, 1] bcast_S512x1_S512x2_0_1 main_v34
  fn_part2 (F := F) main_v10 main_v35

def fn {F : FTy → Type} [FloatOps F] (main_arg0 : FVec F S512x2x128 .f32) (main_arg1 : IVec S512 32) (main_arg2 : IVec S512 32) (main_arg3 : FVec F S100000x128 .f32) (main_arg4 : IVec S100000 1) : IVec S512x2 1 :=
  let main_v0 : FVec F S512x2x128 .f32 := mulf main_arg0 main_arg0
  let main_cst : FVec F S_ .f32 := constant S_ .f32 0x00000000#32
  let main_v1 : FVec F S512x2 .f32 := (fun x v => Host.reduceAdd x v reducesTo_S512x2x128_S512x2_d2 h_S_) main_v0 main_cst
  let main_v2 : FVec F S512x2 .f32 := Host.sqrt main_v1
  let main_cst_0 : FVec F S_ .f32 := constant S_ .f32 0x7F800000#32
  let main_v3 : FVec F S512x2 .f32 := broadcastInDim S512x2 ![] bcast_S_S512x2 main_cst_0
  let main_v4 : IVec S512x2 1 := cmpf .olt main_v2 main_v3
  let main_cst_1 : FVec F S_ .f32 := constant S_ .f32 0x00000000#32
  let main_v5 : FVec F S512x2 .f32 := broadcastInDim S512x2 ![] bcast_S_S512x2 main_cst_1
  let main_v6 : IVec S512x2 1 := cmpf .oeq main_v2 main_v5
  let main_cst_2 : FVec F S_ .f32 := constant S_ .f32 0x2B8CBCCC#32
  let main_v7 : FVec F S512x2 .f32 := broadcastInDim S512x2 ![] bcast_S_S512x2 main_cst_2
  let main_v8 : IVec S512x2 1 := cmpf .oge main_v2 main_v7
  let main_v9 : IVec S512x2 1 := ori main_v6 main_v8
  let main_v10 : IVec S512x2 1 := andi main_v4 main_v9
  let main_c : IVec S_ 32 := constantI S_ 32 0#32
  let main_v11 : IVec S512 32 := broadcastInDim S512 ![] bcast_S_S512 main_c
  let main_v12 : IVec S512 1 := cmpi .sge main_arg1 main_v11
  let main_c_3 : IVec S_ 32 := constantI S_ 32 128#32
  let main_v13 : IVec S512 32 := broadcastInDim S512 ![] bcast_S_S512 main_c_3
  let main_v14 : IVec S512 1 := cmpi .slt main_arg1 main_v13
  let main_v15 : IVec S512 1 := andi main_v12 main_v14
  let main_c_4 : IVec S_ 32 := constantI S_ 32 0#32
  let main_v16 : IVec S512 32 := broadcastInDim S512 ![] bcast_S_S512 main_c_4
  fn_part1 (F := F) main_arg2 main_arg4 main_v10 main_v15 main_v16
-- ==== Kernel.lean ====
abbrev S512x2x128 : Shape := ⟨3, ![512, 2, 128]⟩
abbrev S512 : Shape := ⟨1, ![512]⟩
abbrev S100000x128 : Shape := ⟨2, ![100000, 128]⟩
abbrev S100000 : Shape := ⟨1, ![100000]⟩
abbrev S1x1 : Shape := ⟨2, ![1, 1]⟩
abbrev S512x128 : Shape := ⟨2, ![512, 128]⟩
abbrev S_ : Shape := ⟨0, ![]⟩
abbrev S512x1x128 : Shape := ⟨3, ![512, 1, 128]⟩
abbrev S1x512 : Shape := ⟨2, ![1, 512]⟩
abbrev S128x512 : Shape := ⟨2, ![128, 512]⟩
abbrev S128 : Shape := ⟨1, ![128]⟩
abbrev S128x1 : Shape := ⟨2, ![128, 1]⟩
abbrev S512x1 : Shape := ⟨2, ![512, 1]⟩
abbrev S512x512 : Shape := ⟨2, ![512, 512]⟩
abbrev S1x512x1 : Shape := ⟨3, ![1, 512, 1]⟩
abbrev S1 : Shape := ⟨1, ![1]⟩
abbrev S1x1x1 : Shape := ⟨3, ![1, 1, 1]⟩
abbrev S128x128 : Shape := ⟨2, ![128, 128]⟩

abbrev nBuf : Space → Nat
  | .hbm => 7
  | .vmem => 4
  | .smem => 0
  | _ => 0

abbrev bufTy : (tb : Table) → Fin (tcTables nBuf tb) → BufTy
  | .hbm, ⟨0, _⟩ => ⟨S512x2x128, .f32⟩
  | .hbm, ⟨1, _⟩ => ⟨S512, .i32⟩
  | .hbm, ⟨2, _⟩ => ⟨S512, .i32⟩
  | .hbm, ⟨3, _⟩ => ⟨S100000x128, .f32⟩
  | .hbm, ⟨4, _⟩ => ⟨S100000, .i1⟩
  | .hbm, ⟨5, _⟩ => ⟨S1x1, .f32⟩
  | .hbm, ⟨6, _⟩ => ⟨S_, .f32⟩
  | .local _ .vmem, ⟨0, _⟩ => ⟨S1x1, .f32⟩
  | .local _ .vmem, ⟨1, _⟩ => ⟨S512x128, .f32⟩
  | .local _ .vmem, ⟨2, _⟩ => ⟨S512x128, .f32⟩
  | .local _ .vmem, ⟨3, _⟩ => ⟨S512, .i32⟩
  | _, _ => ⟨S512x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0

abbrev nD : Nat := 1
abbrev τ : Topo := Topo.v7x

variable {F : FTy → Type} [FloatOps F]

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== KernelIdeal.lean ====
variable {F : FTy → Type} [FloatOps F] [Named F]
def κ : String → Option EReal := fun
  | "eps_sq" => some ((5316911940649 / 5316911983139663491615228241121378304 : ℝ) : EReal)
  | "inv_temp" => some ((134217728 / 9395241 : ℝ) : EReal)
  | _ => none
-- ==== ReferenceIdeal.lean ====
abbrev S512x2x128 : Shape := ⟨3, ![512, 2, 128]⟩
abbrev S512 : Shape := ⟨1, ![512]⟩
abbrev S100000x128 : Shape := ⟨2, ![100000, 128]⟩
abbrev S100000 : Shape := ⟨1, ![100000]⟩
abbrev S_ : Shape := ⟨0, ![]⟩
abbrev S512x2 : Shape := ⟨2, ![512, 2]⟩
abbrev S512x2x1 : Shape := ⟨3, ![512, 2, 1]⟩
abbrev S2x512x128 : Shape := ⟨3, ![2, 512, 128]⟩
abbrev S1024x128 : Shape := ⟨2, ![1024, 128]⟩
abbrev S512x1 : Shape := ⟨2, ![512, 1]⟩
abbrev S1x512 : Shape := ⟨2, ![1, 512]⟩
abbrev S512x512 : Shape := ⟨2, ![512, 512]⟩
abbrev S1x512x1x512 : Shape := ⟨4, ![1, 512, 1, 512]⟩
abbrev S2x512x2x512 : Shape := ⟨4, ![2, 512, 2, 512]⟩
abbrev S1024x1024 : Shape := ⟨2, ![1024, 1024]⟩
abbrev S128x1024 : Shape := ⟨2, ![128, 1024]⟩
abbrev S1024 : Shape := ⟨1, ![1024]⟩
abbrev S1024x1 : Shape := ⟨2, ![1024, 1]⟩
abbrev S2x512 : Shape := ⟨2, ![2, 512]⟩
abbrev S1 : Shape := ⟨1, ![1]⟩
abbrev S1x1 : Shape := ⟨2, ![1, 1]⟩
abbrev S1x1024 : Shape := ⟨2, ![1, 1024]⟩

abbrev nBuf : Space → Nat
  | .hbm => 240
  | .vmem => 0
  | .smem => 0
  | _ => 0

abbrev hbmTy0_0 (i : Nat) : BufTy := match i % 128 with
  | 0 => ⟨S512x2x128, .f32⟩
  | 1 => ⟨S512, .i32⟩
  | 2 => ⟨S512, .i32⟩
  | 3 => ⟨S100000x128, .f32⟩
  | 4 => ⟨S100000, .i1⟩
  | 5 => ⟨S512x2x128, .f32⟩
  | 6 => ⟨S_, .f32⟩
  | 7 => ⟨S512x2, .f32⟩
  | 8 => ⟨S512x2x1, .f32⟩
  | 9 => ⟨S512x2x1, .f32⟩
  | 10 => ⟨S_, .f32⟩
  | 11 => ⟨S512x2x1, .f32⟩
  | 12 => ⟨S512x2x1, .f32⟩
  | 13 => ⟨S512x2x128, .f32⟩
  | 14 => ⟨S512x2x128, .f32⟩
  | 15 => ⟨S2x512x128, .f32⟩
  | 16 => ⟨S1024x128, .f32⟩
  | 17 => ⟨S512x1, .i32⟩
  | 18 => ⟨S1x512, .i32⟩
  | 19 => ⟨S512x512, .i32⟩
  | 20 => ⟨S512x512, .i32⟩
  | 21 => ⟨S512x512, .i1⟩
  | 22 => ⟨S512x512, .f32⟩
  | 23 => ⟨S1x512x1x512, .f32⟩
  | 24 => ⟨S2x512x2x512, .f32⟩
  | 25 => ⟨S1024x1024, .f32⟩
  | 26 => ⟨S1024x1024, .i32⟩
  | 27 => ⟨S1024x1024, .i32⟩
  | 28 => ⟨S_, .i32⟩
  | 29 => ⟨S1024x1024, .i32⟩
  | 30 => ⟨S1024x1024, .i32⟩
  | 31 => ⟨S1024x1024, .i1⟩
  | 32 => ⟨S1024x1024, .f32⟩
  | 33 => ⟨S_, .f32⟩
  | 34 => ⟨S1024x1024, .f32⟩
  | 35 => ⟨S1024x1024, .f32⟩
  | 36 => ⟨S1024x1024, .f32⟩
  | 37 => ⟨S128x1024, .f32⟩
  | 38 => ⟨S1024x1024, .f32⟩
  | 39 => ⟨S_, .f32⟩
  | 40 => ⟨S1024x1024, .f32⟩
  | 41 => ⟨S1024x1024, .f32⟩
  | 42 => ⟨S_, .f32⟩
  | 43 => ⟨S1024, .f32⟩
  | 44 => ⟨S1024x1, .f32⟩
  | 45 => ⟨S1024x1024, .f32⟩
  | 46 => ⟨S1024x1024, .f32⟩
  | 47 => ⟨S1024x1024, .f32⟩
  | 48 => ⟨S1024x1024, .f32⟩
  | 49 => ⟨S_, .f32⟩
  | 50 => ⟨S1024, .f32⟩
  | 51 => ⟨S1024x1, .f32⟩
  | 52 => ⟨S_, .f32⟩
  | 53 => ⟨S1024x1, .f32⟩
  | 54 => ⟨S1024x1, .f32⟩
  | 55 => ⟨S1024x1, .f32⟩
  | 56 => ⟨S1024x1024, .f32⟩
  | 57 => ⟨S1024x1024, .f32⟩
  | 58 => ⟨S1x512, .i32⟩
  | 59 => ⟨S2x512, .i32⟩
  | 60 => ⟨S1024, .i32⟩
  | 61 => ⟨S_, .f32⟩
  | 62 => ⟨S1024, .f32⟩
  | 63 => ⟨S_, .f32⟩
  | 64 => ⟨S1024x1024, .f32⟩
  | 65 => ⟨S1024x1024, .i1⟩
  | 66 => ⟨S_, .f32⟩
  | 67 => ⟨S1024, .f32⟩
  | 68 => ⟨S1024, .f32⟩
  | 69 => ⟨S1024x1, .f32⟩
  | 70 => ⟨S_, .f32⟩
  | 71 => ⟨S1024x1, .f32⟩
  | 72 => ⟨S1024x1, .f32⟩
  | 73 => ⟨S_, .f32⟩
  | 74 => ⟨S_, .f32⟩
  | 75 => ⟨S1024x1024, .f32⟩
  | 76 => ⟨S1024x1024, .f32⟩
  | 77 => ⟨S1024x1024, .f32⟩
  | 78 => ⟨S128x1024, .f32⟩
  | 79 => ⟨S1024x1024, .f32⟩
  | 80 => ⟨S_, .i32⟩
  | 81 => ⟨S1024, .i32⟩
  | 82 => ⟨S1024, .i1⟩
  | 83 => ⟨S_, .i32⟩
  | 84 => ⟨S1024, .i32⟩
  | 85 => ⟨S1024, .i32⟩
  | 86 => ⟨S1024, .i32⟩
  | 87 => ⟨S1024x1, .i32⟩
  | 88 => ⟨S1, .i32⟩
  | 89 => ⟨S_, .i32⟩
  | 90 => ⟨S1024x1, .i32⟩
  | 91 => ⟨S1024x1, .i1⟩
  | 92 => ⟨S1x1, .i32⟩
  | 93 => ⟨S1024x1, .i32⟩
  | 94 => ⟨S1024x1, .i1⟩
  | 95 => ⟨S1024x1, .i1⟩
  | 96 => ⟨S_, .i1⟩
  | 97 => ⟨S1024, .i1⟩
  | 98 => ⟨S1024x128, .f32⟩
  | 99 => ⟨S1024x128, .i1⟩
  | 100 => ⟨S_, .f32⟩
  | 101 => ⟨S1024x128, .f32⟩
  | 102 => ⟨S1024x128, .f32⟩
  | 103 => ⟨S128x1024, .f32⟩
  | 104 => ⟨S1024x1024, .f32⟩
  | 105 => ⟨S_, .f32⟩
  | 106 => ⟨S1024x1024, .f32⟩
  | 107 => ⟨S1024x1024, .i1⟩
  | 108 => ⟨S_, .f32⟩
  | 109 => ⟨S1024x1024, .f32⟩
  | 110 => ⟨S1024x1024, .f32⟩
  | 111 => ⟨S_, .f32⟩
  | 112 => ⟨S1024x1024, .f32⟩
  | 113 => ⟨S1024x1024, .i1⟩
  | 114 => ⟨S_, .f32⟩
  | 115 => ⟨S1024x1024, .f32⟩
  | 116 => ⟨S1024x1024, .f32⟩
  | 117 => ⟨S1024x1024, .f32⟩
  | 118 => ⟨S1024x1024, .i32⟩
  | 119 => ⟨S1024x1024, .f32⟩
  | 120 => ⟨S1024x1024, .i32⟩
  | 121 => ⟨S1024x1024, .i32⟩
  | 122 => ⟨S1024x1024, .i32⟩
  | 123 => ⟨S1024x1024, .i32⟩
  | 124 => ⟨S1024x1024, .f32⟩
  | 125 => ⟨S1024x1024, .i32⟩
  | 126 => ⟨S1024x1024, .f32⟩
  | 127 => ⟨S1024x1024, .i32⟩
  | _ => ⟨S512x2x128, .f32⟩

abbrev hbmTy0_1 (i : Nat) : BufTy := match i % 128 with
  | 0 => ⟨S1024x1024, .i32⟩
  | 1 => ⟨S1024x1024, .i32⟩
  | 2 => ⟨S1024x1024, .i32⟩
  | 3 => ⟨S1024x1024, .i32⟩
  | 4 => ⟨S1024x1024, .i32⟩
  | 5 => ⟨S1024x1024, .f32⟩
  | 6 => ⟨S1024x1, .f32⟩
  | 7 => ⟨S_, .f32⟩
  | 8 => ⟨S1024x1, .f32⟩
  | 9 => ⟨S1024x1, .f32⟩
  | 10 => ⟨S_, .f32⟩
  | 11 => ⟨S1024x1, .f32⟩
  | 12 => ⟨S1024x1, .f32⟩
  | 13 => ⟨S1024x1024, .f32⟩
  | 14 => ⟨S1024x1024, .f32⟩
  | 15 => ⟨S1024x1, .f32⟩
  | 16 => ⟨S_, .f32⟩
  | 17 => ⟨S1024x1, .f32⟩
  | 18 => ⟨S1024x1, .i1⟩
  | 19 => ⟨S_, .f32⟩
  | 20 => ⟨S_, .f32⟩
  | 21 => ⟨S1024x1024, .i1⟩
  | 22 => ⟨S1024x1024, .f32⟩
  | 23 => ⟨S1024x1024, .f32⟩
  | 24 => ⟨S_, .f32⟩
  | 25 => ⟨S1024x1024, .f32⟩
  | 26 => ⟨S1024x1024, .f32⟩
  | 27 => ⟨S_, .f32⟩
  | 28 => ⟨S_, .f32⟩
  | 29 => ⟨S1024x1024, .f32⟩
  | 30 => ⟨S1024x1024, .f32⟩
  | 31 => ⟨S_, .f32⟩
  | 32 => ⟨S1024x1024, .f32⟩
  | 33 => ⟨S1024x1024, .i1⟩
  | 34 => ⟨S_, .f32⟩
  | 35 => ⟨S_, .f32⟩
  | 36 => ⟨S1024x1024, .f32⟩
  | 37 => ⟨S1024x1024, .f32⟩
  | 38 => ⟨S_, .f32⟩
  | 39 => ⟨S1024, .f32⟩
  | 40 => ⟨S1024x1, .f32⟩
  | 41 => ⟨S_, .f32⟩
  | 42 => ⟨S1024x1, .f32⟩
  | 43 => ⟨S1024x1, .i1⟩
  | 44 => ⟨S_, .f32⟩
  | 45 => ⟨S1024x1, .f32⟩
  | 46 => ⟨S1024x1, .f32⟩
  | 47 => ⟨S1024x1024, .f32⟩
  | 48 => ⟨S1024x1024, .f32⟩
  | 49 => ⟨S1024x1024, .i1⟩
  | 50 => ⟨S1024x1024, .f32⟩
  | 51 => ⟨S_, .i32⟩
  | 52 => ⟨S1024, .i32⟩
  | 53 => ⟨S1024, .i1⟩
  | 54 => ⟨S_, .i32⟩
  | 55 => ⟨S1024, .i32⟩
  | 56 => ⟨S1024, .i32⟩
  | 57 => ⟨S1024, .i32⟩
  | 58 => ⟨S1024x1, .i32⟩
  | 59 => ⟨S1, .i32⟩
  | 60 => ⟨S_, .i32⟩
  | 61 => ⟨S1024x1, .i32⟩
  | 62 => ⟨S1024x1, .i1⟩
  | 63 => ⟨S1x1, .i32⟩
  | 64 => ⟨S1024x1, .i32⟩
  | 65 => ⟨S1024x1, .i1⟩
  | 66 => ⟨S1024x1, .i1⟩
  | 67 => ⟨S_, .i1⟩
  | 68 => ⟨S1024, .i1⟩
  | 69 => ⟨S1024, .i1⟩
  | 70 => ⟨S_, .i1⟩
  | 71 => ⟨S1024, .i1⟩
  | 72 => ⟨S1024, .i1⟩
  | 73 => ⟨S1024, .f32⟩
  | 74 => ⟨S_, .f32⟩
  | 75 => ⟨S1024x1024, .f32⟩
  | 76 => ⟨S1024x1024, .i1⟩
  | 77 => ⟨S1x1024, .f32⟩
  | 78 => ⟨S_, .f32⟩
  | 79 => ⟨S_, .f32⟩
  | 80 => ⟨S1024x1024, .f32⟩
  | 81 => ⟨S1024x1024, .f32⟩
  | 82 => ⟨S1024x1024, .f32⟩
  | 83 => ⟨S1024x1, .f32⟩
  | 84 => ⟨S_, .f32⟩
  | 85 => ⟨S1024, .f32⟩
  | 86 => ⟨S1024x1, .f32⟩
  | 87 => ⟨S1024x1, .f32⟩
  | 88 => ⟨S_, .f32⟩
  | 89 => ⟨S1024x1, .f32⟩
  | 90 => ⟨S1024x1, .i1⟩
  | 91 => ⟨S1024x1024, .i1⟩
  | 92 => ⟨S1024x1024, .f32⟩
  | 93 => ⟨S1024x1, .f32⟩
  | 94 => ⟨S_, .f32⟩
  | 95 => ⟨S1024x1, .f32⟩
  | 96 => ⟨S1024x1, .i1⟩
  | 97 => ⟨S_, .f32⟩
  | 98 => ⟨S_, .f32⟩
  | 99 => ⟨S1024x1024, .i1⟩
  | 100 => ⟨S1024x1024, .f32⟩
  | 101 => ⟨S1024x1024, .f32⟩
  | 102 => ⟨S1024x1024, .f32⟩
  | 103 => ⟨S_, .f32⟩
  | 104 => ⟨S1024, .f32⟩
  | 105 => ⟨S_, .f32⟩
  | 106 => ⟨S1024, .f32⟩
  | 107 => ⟨S1024, .f32⟩
  | 108 => ⟨S_, .f32⟩
  | 109 => ⟨S_, .f32⟩
  | 110 => ⟨S_, .f32⟩
  | 111 => ⟨S_, .f32⟩
  | _ => ⟨S512x2x128, .f32⟩

abbrev hbmTy (i : Nat) : BufTy := match i / 128 with
  | 0 => hbmTy0_0 i
  | 1 => hbmTy0_1 i
  | _ => ⟨S512x2x128, .f32⟩

abbrev bufTy : (tb : Table) → Fin (tcTables nBuf tb) → BufTy
  | .hbm, ⟨i, _⟩ => hbmTy i
  | _, _ => ⟨S512x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_5 : Ref sig .tc := ⟨.hbm, 61, rfl⟩
abbrev main_v45 : Ref sig .tc := ⟨.hbm, 62, rfl⟩
abbrev main_cst_6 : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_call2_c : Ref sig .tc := ⟨.hbm, 80, rfl⟩
abbrev main_call2_v0 : Ref sig .tc := ⟨.hbm, 81, rfl⟩
abbrev main_call2_v1 : Ref sig .tc := ⟨.hbm, 82, rfl⟩
abbrev main_call2_c_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_c_1 : Ref sig .tc := ⟨.hbm, 88, rfl⟩
abbrev main_call2_c_2 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_c_3 : Ref sig .tc := ⟨.hbm, 96, rfl⟩
abbrev main_call2_v12 : Ref sig .tc := ⟨.hbm, 97, rfl⟩
abbrev main_call2_v13 : Ref sig .tc := ⟨.hbm, 98, rfl⟩
abbrev main_call2_v14 : Ref sig .tc := ⟨.hbm, 99, rfl⟩
abbrev main_call2_cst : Ref sig .tc := ⟨.hbm, 100, rfl⟩
abbrev main_call2_v15 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_10 : Ref sig .tc := ⟨.hbm, 105, rfl⟩
abbrev main_v59 : Ref sig .tc := ⟨.hbm, 106, rfl⟩
abbrev main_v60 : Ref sig .tc := ⟨.hbm, 107, rfl⟩
abbrev main_cst_11 : Ref sig .tc := ⟨.hbm, 108, rfl⟩
abbrev main_call3_v0 : Ref sig .tc := ⟨.hbm, 109, rfl⟩
abbrev main_v61 : Ref sig .tc := ⟨.hbm, 110, rfl⟩
abbrev main_cst_12 : Ref sig .tc := ⟨.hbm, 111, rfl⟩
abbrev main_v62 : Ref sig .tc := ⟨.hbm, 112, rfl⟩
abbrev main_v63 : Ref sig .tc := ⟨.hbm, 113, rfl⟩
abbrev main_cst_13 : Ref sig .tc := ⟨.hbm, 114, rfl⟩
abbrev main_call4_v0 : Ref sig .tc := ⟨.hbm, 115, rfl⟩
abbrev main_v64 : Ref sig .tc := ⟨.hbm, 116, rfl⟩
abbrev main_v65 : Ref sig .tc := ⟨.hbm, 117, rfl⟩
abbrev main_call5_v0 : Ref sig .tc := ⟨.hbm, 118, rfl⟩
abbrev main_call5_v1_0 : Ref sig .tc := ⟨.hbm, 119, rfl⟩
abbrev main_v66 : Ref sig .tc := ⟨.hbm, 120, rfl⟩
abbrev main_call6_v0 : Ref sig .tc := ⟨.hbm, 121, rfl⟩
abbrev main_call6_v1_0 : Ref sig .tc := ⟨.hbm, 122, rfl⟩
abbrev main_v67 : Ref sig .tc := ⟨.hbm, 123, rfl⟩
abbrev main_v68 : Ref sig .tc := ⟨.hbm, 124, rfl⟩
abbrev main_call7_v0 : Ref sig .tc := ⟨.hbm, 125, rfl⟩
abbrev main_call7_v1_0 : Ref sig .tc := ⟨.hbm, 126, rfl⟩
abbrev main_v69 : Ref sig .tc := ⟨.hbm, 127, rfl⟩
abbrev main_call8_v0 : Ref sig .tc := ⟨.hbm, 128, rfl⟩
abbrev main_call8_v1_0 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_cst_14 : Ref sig .tc := ⟨.hbm, 135, rfl⟩
abbrev main_v75 : Ref sig .tc := ⟨.hbm, 136, rfl⟩
abbrev main_v76 : Ref sig .tc := ⟨.hbm, 137, rfl⟩
abbrev main_cst_15 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_cst_16 : Ref sig .tc := ⟨.hbm, 144, rfl⟩
abbrev main_v82 : Ref sig .tc := ⟨.hbm, 145, rfl⟩
abbrev main_v83 : Ref sig .tc := ⟨.hbm, 146, rfl⟩
abbrev main_cst_17 : Ref sig .tc := ⟨.hbm, 147, rfl⟩
abbrev main_call9_v0 : Ref sig .tc := ⟨.hbm, 148, rfl⟩
abbrev main_call9_v1 : Ref sig .tc := ⟨.hbm, 149, rfl⟩
abbrev main_call9_v2 : Ref sig .tc := ⟨.hbm, 150, rfl⟩
abbrev main_v84 : Ref sig .tc := ⟨.hbm, 151, rfl⟩
abbrev main_cst_18 : Ref sig .tc := ⟨.hbm, 152, rfl⟩
abbrev main_v85 : Ref sig .tc := ⟨.hbm, 153, rfl⟩
abbrev main_v86 : Ref sig .tc := ⟨.hbm, 154, rfl⟩
abbrev main_cst_19 : Ref sig .tc := ⟨.hbm, 155, rfl⟩
abbrev main_call10_v0 : Ref sig .tc := ⟨.hbm, 156, rfl⟩
abbrev main_call10_v1 : Ref sig .tc := ⟨.hbm, 157, rfl⟩
abbrev main_v87 : Ref sig .tc := ⟨.hbm, 158, rfl⟩
abbrev main_cst_20 : Ref sig .tc := ⟨.hbm, 159, rfl⟩
abbrev main_v88 : Ref sig .tc := ⟨.hbm, 160, rfl⟩
abbrev main_v89 : Ref sig .tc := ⟨.hbm, 161, rfl⟩
abbrev main_cst_21 : Ref sig .tc := ⟨.hbm, 162, rfl⟩
abbrev main_call11_v0 : Ref sig .tc := ⟨.hbm, 163, rfl⟩
abbrev main_call11_v1 : Ref sig .tc := ⟨.hbm, 164, rfl⟩
abbrev main_v90 : Ref sig .tc := ⟨.hbm, 165, rfl⟩
abbrev main_cst_22 : Ref sig .tc := ⟨.hbm, 166, rfl⟩
abbrev main_v91 : Ref sig .tc := ⟨.hbm, 167, rfl⟩
abbrev main_v92 : Ref sig .tc := ⟨.hbm, 168, rfl⟩
abbrev main_cst_23 : Ref sig .tc := ⟨.hbm, 169, rfl⟩
abbrev main_v93 : Ref sig .tc := ⟨.hbm, 170, rfl⟩
abbrev main_v94 : Ref sig .tc := ⟨.hbm, 171, rfl⟩
abbrev main_cst_24 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_call12_v0 : Ref sig .tc := ⟨.hbm, 177, rfl⟩
abbrev main_v99 : Ref sig .tc := ⟨.hbm, 178, rfl⟩
abbrev main_call13_c : Ref sig .tc := ⟨.hbm, 179, rfl⟩
abbrev main_call13_v0 : Ref sig .tc := ⟨.hbm, 180, rfl⟩
abbrev main_call13_v1 : Ref sig .tc := ⟨.hbm, 181, rfl⟩
abbrev main_call13_c_0 : Ref sig .tc := ⟨.hbm, 182, rfl⟩
abbrev main_call13_v2 : Ref sig .tc := ⟨.hbm, 183, rfl⟩
abbrev main_call13_v3 : Ref sig .tc := ⟨.hbm, 184, rfl⟩
abbrev main_call13_v4 : Ref sig .tc := ⟨.hbm, 185, rfl⟩
abbrev main_call13_v5 : Ref sig .tc := ⟨.hbm, 186, rfl⟩
abbrev main_call13_c_1 : Ref sig .tc := ⟨.hbm, 187, rfl⟩
abbrev main_call13_c_2 : Ref sig .tc := ⟨.hbm, 188, rfl⟩
abbrev main_call13_v6 : Ref sig .tc := ⟨.hbm, 189, rfl⟩
abbrev main_call13_v7 : Ref sig .tc := ⟨.hbm, 190, rfl⟩
abbrev main_call13_v8 : Ref sig .tc := ⟨.hbm, 191, rfl⟩
abbrev main_call13_v9 : Ref sig .tc := ⟨.hbm, 192, rfl⟩
abbrev main_call13_v10 : Ref sig .tc := ⟨.hbm, 193, rfl⟩
abbrev main_call13_v11 : Ref sig .tc := ⟨.hbm, 194, rfl⟩
abbrev main_call13_c_3 : Ref sig .tc := ⟨.hbm, 195, rfl⟩
abbrev main_call13_v12 : Ref sig .tc := ⟨.hbm, 196, rfl⟩
abbrev main_call13_v13 : Ref sig .tc := ⟨.hbm, 197, rfl⟩
abbrev main_call13_c_4 : Ref sig .tc := ⟨.hbm, 198, rfl⟩
abbrev main_call13_v14 : Ref sig .tc := ⟨.hbm, 199, rfl⟩
abbrev main_v100 : Ref sig .tc := ⟨.hbm, 200, rfl⟩
abbrev main_v101 : Ref sig .tc := ⟨.hbm, 201, rfl⟩
abbrev main_cst_25 : Ref sig .tc := ⟨.hbm, 202, rfl⟩
abbrev main_v102 : Ref sig .tc := ⟨.hbm, 203, rfl⟩
abbrev main_v103 : Ref sig .tc := ⟨.hbm, 204, rfl⟩
abbrev main_v104 : Ref sig .tc := ⟨.hbm, 205, rfl⟩
abbrev main_cst_26 : Ref sig .tc := ⟨.hbm, 206, rfl⟩
abbrev main_call14_v0 : Ref sig .tc := ⟨.hbm, 207, rfl⟩
abbrev main_call14_v1 : Ref sig .tc := ⟨.hbm, 208, rfl⟩
abbrev main_call14_v2 : Ref sig .tc := ⟨.hbm, 209, rfl⟩
abbrev main_v105 : Ref sig .tc := ⟨.hbm, 210, rfl⟩
abbrev main_v106 : Ref sig .tc := ⟨.hbm, 211, rfl⟩
abbrev main_cst_27 : Ref sig .tc := ⟨.hbm, 212, rfl⟩
abbrev main_v107 : Ref sig .tc := ⟨.hbm, 213, rfl⟩
abbrev main_v108 : Ref sig .tc := ⟨.hbm, 214, rfl⟩
abbrev main_v109 : Ref sig .tc := ⟨.hbm, 215, rfl⟩
abbrev main_cst_28 : Ref sig .tc := ⟨.hbm, 216, rfl⟩
abbrev main_v110 : Ref sig .tc := ⟨.hbm, 217, rfl⟩
abbrev main_v111 : Ref sig .tc := ⟨.hbm, 218, rfl⟩
abbrev main_call15_v0 : Ref sig .tc := ⟨.hbm, 219, rfl⟩
abbrev main_v112 : Ref sig .tc := ⟨.hbm, 220, rfl⟩
abbrev main_v113 : Ref sig .tc := ⟨.hbm, 221, rfl⟩
abbrev main_cst_29 : Ref sig .tc := ⟨.hbm, 222, rfl⟩
abbrev main_v114 : Ref sig .tc := ⟨.hbm, 223, rfl⟩
abbrev main_v115 : Ref sig .tc := ⟨.hbm, 224, rfl⟩
abbrev main_cst_30 : Ref sig .tc := ⟨.hbm, 225, rfl⟩
abbrev main_call16_v0 : Ref sig .tc := ⟨.hbm, 226, rfl⟩
abbrev main_call16_v1 : Ref sig .tc := ⟨.hbm, 227, rfl⟩
abbrev main_call16_v2 : Ref sig .tc := ⟨.hbm, 228, rfl⟩
abbrev main_v116 : Ref sig .tc := ⟨.hbm, 229, rfl⟩
abbrev main_v117 : Ref sig .tc := ⟨.hbm, 230, rfl⟩
abbrev main_cst_31 : Ref sig .tc := ⟨.hbm, 231, rfl⟩
abbrev main_v118 : Ref sig .tc := ⟨.hbm, 232, rfl⟩
abbrev main_cst_32 : Ref sig .tc := ⟨.hbm, 233, rfl⟩
abbrev main_v119 : Ref sig .tc := ⟨.hbm, 234, rfl⟩
abbrev main_v120 : Ref sig .tc := ⟨.hbm, 235, rfl⟩
abbrev main_cst_33 : Ref sig .tc := ⟨.hbm, 236, rfl⟩
abbrev main_v121 : Ref sig .tc := ⟨.hbm, 237, rfl⟩
abbrev main_cst_34 : Ref sig .tc := ⟨.hbm, 238, rfl⟩
abbrev main_v122 : Ref sig .tc := ⟨.hbm, 239, rfl⟩

abbrev nD : Nat := 1
abbrev τ : Topo := Topo.v7x

variable {F : FTy → Type} [FloatOps F]
-- ==== Proof.Consts.lean ====
/- The numbers the programs write: each literal's and each named constant's real value, and reals inside the extended reals. -/
module

public import proofs.«01_k».proof.KernelIdeal
public import Idealize.ShloMosaic.PureOps.Ideal.Laws
public import Idealize.ShloMosaic.Lib.Pointwise

@[expose] public section

noncomputable section

namespace Cert.Loss

open Idealize.ShloMosaic

/-- The float the reference writes for `1e-12`. -/
def eps : ℝ := 2305843 / 2305843009213693952

/-- The inverse temperature: one over the float written for `0.07`. -/
def invTemp : ℝ := 134217728 / 9395241

theorem eps_pos : 0 < eps := by unfold eps; norm_num
theorem invTemp_pos : 0 < invTemp := by unfold invTemp; norm_num

theorem word_zero : Ideal.ofBits .f32 0x00000000#32 = ((0 : ℝ) : EReal) := by simp
theorem word_one : Ideal.ofBits .f32 0x3F800000#32 = ((1 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num
theorem word_rows : Ideal.ofBits .f32 0x44800000#32 = ((1024 : ℝ) : EReal) := by
  simp [Ideal.ofBits, Ideal.ieee, -EReal.coe_mul]; norm_num
theorem word_neg_one : Ideal.ofBits .f32 0xBF800000#32 = ((-1 : ℝ) : EReal) := by
  simp [Ideal.ofBits, Ideal.ieee, -EReal.coe_mul]; norm_num
theorem word_scale : Ideal.ofBits .f32 0xBA800000#32 = ((-1 / 1024 : ℝ) : EReal) := by
  simp [Ideal.ofBits, Ideal.ieee, -EReal.coe_mul]; norm_num
theorem word_eps : Ideal.ofBits .f32 0x2B8CBCCC#32 = ((eps : ℝ) : EReal) := by
  simp [Ideal.ofBits, Ideal.ieee, -EReal.coe_mul, eps]; norm_num
theorem word_temp : Ideal.ofBits .f32 0x3D8F5C29#32 = ((1 / invTemp : ℝ) : EReal) := by
  simp [Ideal.ofBits, Ideal.ieee, -EReal.coe_mul, invTemp]; norm_num
theorem word_inf : Ideal.ofBits .f32 0x7F800000#32 = ⊤ := by simp [Ideal.ofBits, Ideal.ieee]
theorem word_neg_inf : Ideal.ofBits .f32 0xFF800000#32 = ⊥ := by simp [Ideal.ofBits, Ideal.ieee]

theorem named_eps : Named.named (F := Ideal) (φ := .f32) Cert.KernelIdeal.κ "eps_sq" 0x179ABE15#32 = ((eps ^ 2 : ℝ) : EReal) :=
  (IdealRules.named_const.ideal_named_scalar _ _ _ _ rfl).trans (by unfold eps; norm_num)

theorem named_temp : Named.named (F := Ideal) (φ := .f32) Cert.KernelIdeal.κ "inv_temp" 0x41649249#32 = ((invTemp : ℝ) : EReal) :=
  IdealRules.named_const.ideal_named_scalar _ _ _ _ rfl

/-- A finite sum of reals, taken in the extended reals. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The greater of two reals, taken in the extended reals. -/
theorem coe_max (a b : ℝ) : max (a : EReal) (b : EReal) = ((max a b : ℝ) : EReal) :=
  (EReal.coe_strictMono.monotone.map_max (a := a) (b := b)).symm

theorem exp_coe (a : ℝ) : Ideal.exp (a : EReal) = ((Real.exp a : ℝ) : EReal) := by simp
theorem log_coe {a : ℝ} (h : 0 < a) : Ideal.log (a : EReal) = ((Real.log a : ℝ) : EReal) := if_neg (not_le.mpr h)
theorem div_coe {a b : ℝ} (h : b ≠ 0) : Ideal.div (a : EReal) (b : EReal) = ((a / b : ℝ) : EReal) := by
  rw [Ideal.div, if_neg (by exact_mod_cast h), div_eq_mul_inv, EReal.coe_mul, EReal.coe_inv]
theorem rsqrt_coe {a : ℝ} (h : 0 < a) : Ideal.rsqrt (a : EReal) = ((1 / Real.sqrt a : ℝ) : EReal) := by
  show (if a < 0 then ⊥ else if a = 0 then ⊤ else (((Real.sqrt a)⁻¹ : ℝ) : EReal)) = _
  rw [if_neg h.not_gt, if_neg h.ne', one_div]
theorem sqrt_coe {a : ℝ} (h : 0 ≤ a) : Ideal.sqrt (a : EReal) = ((Real.sqrt a : ℝ) : EReal) := if_neg h.not_gt
theorem cmp_gt (a b : ℝ) : Ideal.cmp .ogt (a : EReal) (b : EReal) = if b < a then 1#1 else 0#1 := by
  unfold Ideal.cmp
  by_cases h : b < a <;> simp [h]

end Cert.Loss

end
-- ==== Proof.Math.lean ====
/- The loss in real numbers: what the kernel computes by class sums is what the reference computes row by row. -/
module

public import Idealize.ShloMosaic.PureOps.Ideal.Laws
public import Idealize.ShloMosaic.Lib.Pointwise

@[expose] public section

noncomputable section

namespace Cert.Loss

open Finset

variable {I D C : Type} [Fintype I] [DecidableEq I] [Fintype D] [Fintype C] [DecidableEq C]

/-! ## The reference's loss

A row is a pair (view, sample). `x` holds the normalized rows, `lab` the samples' classes, `c` the rows' shifts,
`t` the inverse temperature, `e` the number added under the logarithm, `n` the number of rows. -/

/-- The scaled inner product of two rows. -/
def logit (x : Fin 2 → I → D → ℝ) (t : ℝ) (p q : Fin 2 × I) : ℝ := (∑ d, x p.1 p.2 d * x q.1 q.2 d) * t

/-- One where two different rows have one class, zero elsewhere. -/
def pos (lab : I → C) (p q : Fin 2 × I) : ℝ := (if lab p.2 = lab q.2 then 1 else 0) * (1 - if p = q then 1 else 0)

/-- How many positives a row has. -/
def npos (lab : I → C) (p : Fin 2 × I) : ℝ := ∑ q, pos lab p q

/-- The sum of the shifted exponentials over the other rows. -/
def den (x : Fin 2 → I → D → ℝ) (t : ℝ) (c : Fin 2 × I → ℝ) (p : Fin 2 × I) : ℝ :=
  ∑ q, Real.exp (logit x t p q - c p) * (1 - if p = q then 1 else 0)

/-- The log-probability of row `q` as row `p` sees it. -/
def logProb (x : Fin 2 → I → D → ℝ) (t e : ℝ) (c : Fin 2 × I → ℝ) (p q : Fin 2 × I) : ℝ :=
  logit x t p q - c p - Real.log (den x t c p + e)

/-- The uniform weight over a row's positives. -/
def weight (lab : I → C) (p q : Fin 2 × I) : ℝ := if 0 < pos lab p q then 1 / max (npos lab p) 1 else 0

/-- The reference's loss. -/
def refLoss (x : Fin 2 → I → D → ℝ) (lab : I → C) (t e n : ℝ) (c : Fin 2 × I → ℝ) : ℝ :=
  (∑ p, -1 * ∑ q, weight lab p q * logProb x t e c p q) / n

/-! ## The kernel's loss -/

/-- The one-hot class table. -/
def hot (lab : I → C) (k : C) (i : I) : ℝ := if k = lab i then 1 else 0

/-- One over the number of positives, from the class counts. -/
def invM (lab : I → C) (i : I) : ℝ := 1 / max (2 * (∑ k, (∑ j, hot lab k j) * hot lab k i) - 1) 1

/-- The scaled Gram matrix of views `v` and `w`. -/
def gram (x : Fin 2 → I → D → ℝ) (t : ℝ) (v w : Fin 2) (i j : I) : ℝ := (∑ d, x v i d * x w j d) * t

/-- The shifted exponentials of one view against itself, off the diagonal. -/
def expOff (x : Fin 2 → I → D → ℝ) (t : ℝ) (c : Fin 2 × I → ℝ) (v : Fin 2) (i j : I) : ℝ :=
  if i = j then 0 else Real.exp (gram x t v v i j - c (v, i))

/-- The kernel's denominator of a row of view 0. -/
def den0 (x : Fin 2 → I → D → ℝ) (t : ℝ) (c : Fin 2 × I → ℝ) (i : I) : ℝ :=
  (∑ j, expOff x t c 0 i j) + Real.exp (-c (0, i)) * ∑ j, Real.exp (gram x t 0 1 i j)

/-- The kernel's denominator of a row of view 1: the same table, summed down its columns. -/
def den1 (x : Fin 2 → I → D → ℝ) (t : ℝ) (c : Fin 2 × I → ℝ) (i : I) : ℝ :=
  (∑ j, expOff x t c 1 i j) + Real.exp (-c (1, i)) * ∑ j, Real.exp (gram x t 0 1 j i)

/-- The sum of all rows' shifts and logarithms. -/
def lzTotal (x : Fin 2 → I → D → ℝ) (t e : ℝ) (c : Fin 2 × I → ℝ) : ℝ :=
  ∑ i, (c (0, i) + Real.log (den0 x t c i + e) + c (1, i) + Real.log (den1 x t c i + e))

/-- The sum of the two views of a sample. -/
def both (x : Fin 2 → I → D → ℝ) (i : I) (d : D) : ℝ := x 0 i d + x 1 i d

/-- The class sum a sample belongs to, through the one-hot table twice. -/
def classRow (x : Fin 2 → I → D → ℝ) (lab : I → C) (i : I) (d : D) : ℝ :=
  ∑ k, hot lab k i * ∑ j, hot lab k j * both x j d

/-- The kernel's loss; `g` holds the rows' products with themselves. -/
def kerLoss (x : Fin 2 → I → D → ℝ) (lab : I → C) (t e n : ℝ) (c : Fin 2 × I → ℝ) (g : I → ℝ) : ℝ :=
  -1 / n * ((∑ i, invM lab i * ((∑ d, both x i d * classRow x lab i d) * t - g i * t)) - lzTotal x t e c)

/-! ## Their equality -/

/-- How many samples have the class of sample `i`. -/
def peers (lab : I → C) (i : I) : ℝ := ∑ j, if lab i = lab j then (1 : ℝ) else 0

omit [Fintype I] [DecidableEq I] in
/-- A sum through one column of the one-hot table picks the column's class. -/
theorem sum_hot (lab : I → C) (i : I) (f : C → ℝ) : ∑ k, f k * hot lab k i = f (lab i) := by
  simp [hot]

omit [DecidableEq I] in
theorem sum_count (lab : I → C) (i : I) : ∑ k, (∑ j, hot lab k j) * hot lab k i = peers lab i := by
  rw [sum_hot lab i (fun k => ∑ j, hot lab k j)]
  rfl

omit [DecidableEq I] in
theorem one_le_peers (lab : I → C) (i : I) : 1 ≤ peers lab i := by
  unfold peers
  have h := Finset.single_le_sum (f := fun j => if lab i = lab j then (1 : ℝ) else 0)
    (fun j _ => by split_ifs <;> norm_num) (mem_univ i)
  simpa using h

/-- A row's number of positives: both views of every peer but the row itself. -/
theorem npos_eq (lab : I → C) (p : Fin 2 × I) : npos lab p = 2 * peers lab p.2 - 1 := by
  obtain ⟨v, i⟩ := p
  have h : ∀ q : Fin 2 × I, pos lab (v, i) q
      = (if lab i = lab q.2 then (1 : ℝ) else 0) - (if q = (v, i) then 1 else 0) := by
    intro q
    unfold pos
    by_cases hq : (v, i) = q
    · subst hq; simp
    · simp [hq, Ne.symm hq]
  unfold npos
  simp only [h, sum_sub_distrib, Fintype.sum_prod_type]
  simp [peers, Finset.sum_ite_eq', Prod.mk.injEq, ite_and]

theorem npos_pos (lab : I → C) (p : Fin 2 × I) : 1 ≤ npos lab p := by
  rw [npos_eq]; linarith [one_le_peers lab p.2]

theorem weight_eq (lab : I → C) (p q : Fin 2 × I) : weight lab p q = invM lab p.2 * pos lab p q := by
  unfold weight invM
  rw [sum_count, ← npos_eq]
  by_cases h : lab p.2 = lab q.2 <;> by_cases h' : p = q <;> simp [pos, h, h']

theorem sum_weight (lab : I → C) (p : Fin 2 × I) : ∑ q, weight lab p q = 1 := by
  simp only [weight_eq, ← mul_sum]
  change invM lab p.2 * npos lab p = 1
  unfold invM
  rw [sum_count, ← npos_eq, max_eq_left (npos_pos lab p)]
  have := npos_pos lab p
  field_simp

/-- The reference's denominator, split by view, of a row of view 0. -/
theorem den_zero (x : Fin 2 → I → D → ℝ) (t : ℝ) (c : Fin 2 × I → ℝ) (i : I) : den x t c (0, i) = den0 x t c i := by
  unfold den den0
  rw [Fintype.sum_prod_type, Fin.sum_univ_two, mul_sum]
  congr 1
  · refine sum_congr rfl fun j _ => ?_
    by_cases h : i = j <;> simp [expOff, h, gram, logit]
  · refine sum_congr rfl fun j _ => ?_
    simp [gram, logit, ← Real.exp_add]
    ring

/-- The reference's denominator, split by view, of a row of view 1. -/
theorem den_one (x : Fin 2 → I → D → ℝ) (t : ℝ) (c : Fin 2 × I → ℝ) (i : I) : den x t c (1, i) = den1 x t c i := by
  unfold den den1
  rw [Fintype.sum_prod_type, Fin.sum_univ_two, mul_sum, add_comm]
  congr 1
  · refine sum_congr rfl fun j _ => ?_
    by_cases h : i = j <;> simp [expOff, h, gram, logit]
  · refine sum_congr rfl fun j _ => ?_
    simp only [gram, logit, ← Real.exp_add]
    simp [mul_comm]
    ring

/-- The positives' logits of a sample's two rows, by the class sum. -/
theorem sum_pos_logit (x : Fin 2 → I → D → ℝ) (lab : I → C) (t : ℝ) (i : I) :
    (∑ q, pos lab (0, i) q * logit x t (0, i) q) + (∑ q, pos lab (1, i) q * logit x t (1, i) q)
      = (∑ d, both x i d * classRow x lab i d) * t - ((∑ d, x 0 i d * x 0 i d) + ∑ d, x 1 i d * x 1 i d) * t := by
  have hsplit : ∀ v : Fin 2, ∑ q, pos lab (v, i) q * logit x t (v, i) q
      = (∑ j, (if lab i = lab j then (1 : ℝ) else 0) * (logit x t (v, i) (0, j) + logit x t (v, i) (1, j)))
        - logit x t (v, i) (v, i) := by
    intro v
    have h : ∀ q : Fin 2 × I, pos lab (v, i) q * logit x t (v, i) q
        = (if lab i = lab q.2 then (1 : ℝ) else 0) * logit x t (v, i) q
          - (if q = (v, i) then logit x t (v, i) (v, i) else 0) := by
      intro q
      unfold pos
      by_cases hq : (v, i) = q
      · subst hq; simp
      · simp [hq, Ne.symm hq]
    simp only [h, sum_sub_distrib, Finset.sum_ite_eq', mem_univ, if_true, Fintype.sum_prod_type, Fin.sum_univ_two,
      ← sum_add_distrib, mul_add]
  have hclass : ∀ d, classRow x lab i d = ∑ j, (if lab i = lab j then (1 : ℝ) else 0) * both x j d := by
    intro d
    unfold classRow
    simp only [mul_comm (hot lab _ i)]
    rw [sum_hot lab i (fun k => ∑ j, hot lab k j * both x j d)]
    rfl
  rw [hsplit 0, hsplit 1]
  have hd : ∑ d, both x i d * classRow x lab i d
      = ∑ j, (if lab i = lab j then (1 : ℝ) else 0) * ∑ d, both x i d * both x j d := by
    simp only [hclass, mul_sum]
    rw [sum_comm]
    refine sum_congr rfl fun j _ => sum_congr rfl fun d _ => by ring
  rw [hd]
  have hj : ∀ j, (logit x t (0, i) (0, j) + logit x t (0, i) (1, j)) + (logit x t (1, i) (0, j) + logit x t (1, i) (1, j))
      = (∑ d, both x i d * both x j d) * t := by
    intro j
    simp only [logit, both, ← add_mul, ← sum_add_distrib]
    congr 1
    refine sum_congr rfl fun d _ => by ring
  have hs : (∑ j, (if lab i = lab j then (1 : ℝ) else 0) * (logit x t (0, i) (0, j) + logit x t (0, i) (1, j)))
      + (∑ j, (if lab i = lab j then (1 : ℝ) else 0) * (logit x t (1, i) (0, j) + logit x t (1, i) (1, j)))
      = (∑ j, (if lab i = lab j then (1 : ℝ) else 0) * ∑ d, both x i d * both x j d) * t := by
    rw [← sum_add_distrib, sum_mul]
    refine sum_congr rfl fun j _ => ?_
    rw [← mul_add, hj j, mul_assoc]
  rw [← hs]
  simp only [logit]
  ring

/-- A row's weighted log-probabilities: the mean of its positives' logits less its shift and logarithm. -/
theorem row_eq (x : Fin 2 → I → D → ℝ) (lab : I → C) (t e : ℝ) (c : Fin 2 × I → ℝ) (p : Fin 2 × I) :
    ∑ q, weight lab p q * logProb x t e c p q
      = invM lab p.2 * (∑ q, pos lab p q * logit x t p q) - (c p + Real.log (den x t c p + e)) := by
  have h : ∀ q, weight lab p q * logProb x t e c p q
      = invM lab p.2 * (pos lab p q * logit x t p q) - weight lab p q * (c p + Real.log (den x t c p + e)) := by
    intro q
    have hw := weight_eq lab p q
    unfold logProb
    rw [show weight lab p q * (logit x t p q - c p - Real.log (den x t c p + e))
        = weight lab p q * logit x t p q - weight lab p q * (c p + Real.log (den x t c p + e)) by ring]
    rw [congrArg (· * logit x t p q) hw]
    ring
  simp only [h, sum_sub_distrib, ← sum_mul, ← mul_sum, sum_weight, one_mul]

/-- The kernel's loss is the reference's. -/
theorem kerLoss_eq (x : Fin 2 → I → D → ℝ) (lab : I → C) (t e n : ℝ) (c : Fin 2 × I → ℝ) :
    kerLoss x lab t e n c (fun i => (∑ d, x 0 i d * x 0 i d) + ∑ d, x 1 i d * x 1 i d) = refLoss x lab t e n c := by
  have hr : ∀ F : Fin 2 × I → ℝ, ∑ p, F p = ∑ i, (F (0, i) + F (1, i)) := by
    intro F
    rw [Fintype.sum_prod_type, Fin.sum_univ_two, sum_add_distrib]
  unfold kerLoss refLoss
  rw [hr (fun p => -1 * ∑ q, weight lab p q * logProb x t e c p q)]
  simp only [row_eq]
  unfold lzTotal
  rw [div_mul_eq_mul_div, neg_one_mul, ← sum_sub_distrib, ← sum_neg_distrib]
  congr 1
  refine sum_congr rfl fun i _ => ?_
  rw [← sum_pos_logit, den_zero, den_one]
  ring

/-! ## The row's greatest logit -/

/-- The shift of a row: the inverse temperature for a unit row, zero for a zero row. -/
def shift (N : Fin 2 × I → ℝ) (t : ℝ) (p : Fin 2 × I) : ℝ := if 0 < N p then t else 0

omit [Fintype I] [DecidableEq I] in
/-- No logit of a unit or zero row against unit or zero rows exceeds the shift. -/
theorem logit_le_shift (x : Fin 2 → I → D → ℝ) (t : ℝ) (ht : 0 ≤ t) (N : Fin 2 × I → ℝ)
    (h1 : ∀ p, 0 < N p → ∑ d, x p.1 p.2 d * x p.1 p.2 d = 1) (h0 : ∀ p, ¬ 0 < N p → ∀ d, x p.1 p.2 d = 0)
    (p q : Fin 2 × I) : logit x t p q ≤ shift N t p := by
  unfold logit shift
  by_cases hp : 0 < N p
  · rw [if_pos hp]
    by_cases hq : 0 < N q
    · have : ∑ d, x p.1 p.2 d * x q.1 q.2 d ≤ 1 := by
        have hsq : ∀ d, x p.1 p.2 d * x q.1 q.2 d ≤ (x p.1 p.2 d * x p.1 p.2 d + x q.1 q.2 d * x q.1 q.2 d) / 2 := by
          intro d; nlinarith [sq_nonneg (x p.1 p.2 d - x q.1 q.2 d)]
        calc _ ≤ ∑ d, (x p.1 p.2 d * x p.1 p.2 d + x q.1 q.2 d * x q.1 q.2 d) / 2 := sum_le_sum fun d _ => hsq d
          _ = 1 := by rw [← sum_div, sum_add_distrib, h1 p hp, h1 q hq]; norm_num
      nlinarith
    · simp [h0 q hq, ht]
  · simp [h0 p hp, hp]

omit [Fintype I] [DecidableEq I] in
/-- A row's logit with itself is the shift. -/
theorem logit_self (x : Fin 2 → I → D → ℝ) (t : ℝ) (N : Fin 2 × I → ℝ)
    (h1 : ∀ p, 0 < N p → ∑ d, x p.1 p.2 d * x p.1 p.2 d = 1) (h0 : ∀ p, ¬ 0 < N p → ∀ d, x p.1 p.2 d = 0)
    (p : Fin 2 × I) : logit x t p p = shift N t p := by
  unfold logit shift
  by_cases hp : 0 < N p
  · rw [if_pos hp, h1 p hp, one_mul]
  · simp [h0 p hp, hp]

end Cert.Loss

end
-- ==== Proof.KernelRun.lean ====
module

public import proofs.«01_k».proof.Proof.Gen.KernelIdeal.Frame
public import Idealize.ShloMosaic.Lib.Pipeline.Value
public import Idealize.ShloMosaic.Lib.VecWindow
public import Idealize.ShloMosaic.Lib.Pointwise

@[expose] public section
set_option maxRecDepth 16384
noncomputable section
namespace Cert.KernelIdeal.Gen

open Idealize.ShloMosaic Idealize.ShloMosaic.TcCoe Idealize.ShloMosaic.Tactic Idealize.SL.Sem
variable {F : FTy → Type} [FloatOps F] [Named F]
variable (m : (ℓ : Loc nD τ sig) → Buf (Elt F) ℓ) (ρ : Dev nD → PrngReg)

/-- A load of a whole buffer which one copy filled reads what was copied. -/
theorem readCov_copied {Val : EltTy → Type} [∀ e, Nonempty (Val e)] {sig : RefSig} {κ : Kind} {sp : Space} {S : Shape} {e : EltTy}
    (v : View sig κ sp S e) {off : Fin S.rank → Nat} (inb : ∀ a, off a + S.size a ≤ S.size a) (w : S.Idx → Val e) :
    v.readCov [(⟨Rect.whole S, w⟩ : View.Piece Val S e)] (Rect.unit off S.size inb).toLoadRect = w :=
  View.readCov_full v inb _ w []

/-- View 0 of a feature array. -/
def view0 (X : Vec F S512x2x128 .f32) : Vec F S512x128 .f32 := fun i => X (ix3 (i 0) 0 (i 1))
/-- View 1 of a feature array. -/
def view1 (X : Vec F S512x2x128 .f32) : Vec F S512x128 .f32 := fun i => X (ix3 (i 0) 1 (i 1))

/-- The index of a feature array that row `i` of the squeezed slice at view `k` reads. -/
theorem slice_at (i : S512x128.Idx) (k : Fin 2) (inb : ∀ a, (![0, k.val, 0] : Fin 3 → ℕ) a + S512x1x128.size a ≤ S512x2x128.size a)
    (h : S512x128.numel = S512x1x128.numel) :
    (Rect.unit (s := S512x2x128) ![0, k.val, 0] S512x1x128.size inb).emb (Shape.reshapeEquiv h i) = ix3 (i 0) k (i 1) := by
  have e : Shape.reshapeEquiv h i = ix3 (i 0) 0 (i 1) :=
    Shape.reshapeEquiv_eq_of_rowMajor h (by
      refine (Shape.rowMajor_val_three (d := ![512, 1, 128]) _).trans ((?_ : _ = _).trans (Shape.rowMajor_val_two (d := ![512, 128]) i).symm)
      show (((i 0).val * 1 + 0) * 128 + (i 1).val) = (i 0).val * 128 + (i 1).val
      omega)
  rw [e]
  funext a; apply Fin.ext
  match a with
  | ⟨0, _⟩ => show 0 + 1 * (i 0).val = (i 0).val; omega
  | ⟨1, _⟩ => show k.val + 1 * 0 = k.val; omega
  | ⟨2, _⟩ => show 0 + 1 * (i 1).val = (i 1).val; omega

/-- The word the kernel stores, as the payloads of its body over the two views and the labels. -/
def word (A B : Vec F S512x128 .f32) (L : IVec S512 32) : Vec F S1x1 .f32 :=
  k0_pay1 (k0_pay3 L) (k0_pay17 (k0_pay11 (k0_pay4 A)) (k0_pay12 B) (k0_pay13 A B (k0_pay4 A)) k0_pay14 (k0_pay15 A (k0_pay4 A)) (k0_pay16 B))
   (k0_pay18 (k0_pay5 (k0_pay4 A)) (k0_pay6 B) (k0_pay7 (k0_pay4 A)) (k0_pay8 B)) (k0_pay19 (k0_pay2 L) (k0_pay9 A (k0_pay4 A)) (k0_pay10 B))

theorem out_eq (c : Dev nD) (t : Fin cfg0.N) :
    outsAt0 m c t = word (view0 (V m c main_arg0)) (view1 (V m c main_arg0)) (V m c main_arg1) := by
  unfold outsAt0 out0_A_0
  rw [View.read_writes_eq_canon _ _ _ (cover0_A_0 c _ _ _ _ _ _ _ _ _ _)]
  unfold kernelRun0_A
  dsimp only
  sl_unfold_words
  rw [View.canon_unit_zero (by decide)]
  have kA := fun w => readCov_copied (Val := Elt F) scM0_0.view inb_S512x128_S512x128_0_0 w
  have kB := fun w => readCov_copied (Val := Elt F) scM0_1.view inb_S512x128_S512x128_0_0 w
  have kL := fun w => readCov_copied (Val := Elt F) scM0_2.view inb_S512_S512_0 w
  rw [kA, kB, kL]
  have hA : ReadAs.same.apply (View.read (Elt F) (((Memref.whole main_arg0).slice (Rect.unit ![0,0,0] S512x1x128.size inb_S512x2x128_S512x1x128_0_0_0) k0_part1_skel._proof_2).squeeze S512x128 squeezes_S512x1x128_S512x128).view (V m c main_arg0)) = view0 (V m c main_arg0) := by
    funext i
    exact congrArg (V m c main_arg0) (slice_at i 0 inb_S512x2x128_S512x1x128_0_0_0 rfl)
  have hB : ReadAs.same.apply (View.read (Elt F) (((Memref.whole main_arg0).slice (Rect.unit ![0,1,0] S512x1x128.size inb_S512x2x128_S512x1x128_0_1_0) k0_part1_skel._proof_5).squeeze S512x128 squeezes_S512x1x128_S512x128).view (V m c main_arg0)) = view1 (V m c main_arg0) := by
    funext i
    exact congrArg (V m c main_arg0) (slice_at i 1 inb_S512x2x128_S512x1x128_0_1_0 rfl)
  rw [hA, hB]
  rfl
/-- A 1×1 array has one index. -/
theorem one_index (i j : S1x1.Idx) : i = j := by
  funext a
  match a with
  | ⟨0, _⟩ => exact Subsingleton.elim (α := Fin 1) _ _
  | ⟨1, _⟩ => exact Subsingleton.elim (α := Fin 1) _ _

/-- The result array after the region: the word of the launched arguments. -/
theorem arr_eq (c : Dev nD) : (dats m 0 c).arrAt 0 cfg0.N
    = word (view0 (m ((c : Thread nD τ).loc main_arg0))) (view1 (m ((c : Thread nD τ).loc main_arg0))) (m ((c : Thread nD τ).loc main_arg1)) := by
  refine (dats m 0 c).arrAt_eq_of_cover 0 _ (fun t _ => ?_) ?_
  · show (cfg0.win 0).cut (grid0.coords t) ((dats m 0 c).after 0 t) = _
    rw [after0_0, out_eq]
    funext j
    show word (view0 (V m c main_arg0)) (view1 (V m c main_arg0)) (V m c main_arg1) j
      = word (view0 (V m c main_arg0)) (view1 (V m c main_arg0)) (V m c main_arg1) (((cfg0.win 0).blk t).view.emb j)
    generalize word (view0 (V m c main_arg0)) (view1 (V m c main_arg0)) (V m c main_arg1) = W
    exact congrArg W (one_index _ _)
  · intro i
    refine ⟨t0_0, flush0_0 _, ?_⟩
    have h := ((cfg0.win 0).blk t0_0).view.emb_mem_set (ix2 0 0)
    rwa [one_index (((cfg0.win 0).blk t0_0).view.emb (ix2 0 0)) i] at h

/-- The result of the whole run. -/
theorem tail_eq (c : Dev nD) : Pipeline.afterTail₀ cfgs (dats m) 0 (V0 m) [hostOps1] c main_v1
    = fun _ => word (view0 (m ((c : Thread nD τ).loc main_arg0))) (view1 (m ((c : Thread nD τ).loc main_arg0))) (m ((c : Thread nD τ).loc main_arg1)) (ix2 0 0) := by
  unfold Pipeline.afterTail₀
  simp only [hostOps1, List.flatten_cons, List.flatten_nil, List.append_nil]
  after_results
  funext i
  refine (congrFun (Pipeline.withArrays_arr (cfgs 0).spec (by decide) c (V0 m c) (fun w => (dats m 0 c).arrAt w (cfgs 0).N) 0) _).trans ?_
  refine (congrFun (arr_eq m c) _).trans ?_
  exact congrArg _ (one_index _ _)

/-- THE KERNEL'S RUN: the result is the word, the arguments end as launched. -/
theorem run_word : θ_run defs (onTc (τ := τ) (main (F := F))) ⟨m, fun _ => 0, ρ⟩ fun r => ∀ c : Dev nD,
      r.2.mem ((c : Thread nD τ).loc main_v1) = (fun _ => word (view0 (m ((c : Thread nD τ).loc main_arg0))) (view1 (m ((c : Thread nD τ).loc main_arg0))) (m ((c : Thread nD τ).loc main_arg1)) (ix2 0 0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v1 (Pipeline.mem_restRefs_of main_v1 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

end Cert.KernelIdeal.Gen
end
-- ==== Proof.KernelRead.lean ====
/- The kernel's payloads read over the reals: each is the real function its lemma names. -/
module

public import proofs.«01_k».proof.Proof.Consts
public import proofs.«01_k».proof.Proof.Math
public import proofs.«01_k».proof.Proof.KernelRun

@[expose] public section

set_option maxRecDepth 16384

noncomputable section

namespace Cert.Loss

open Idealize.ShloMosaic Cert.KernelIdeal Cert.KernelIdeal.Gen

/-- A table of reals as an array. -/
def tab {n k : ℕ} (a : Fin n → Fin k → ℝ) : FVec Ideal ⟨2, ![n, k]⟩ .f32 := fun j => ((a (j 0) (j 1) : ℝ) : EReal)
/-- A column of reals as an array. -/
def col {n : ℕ} (a : Fin n → ℝ) : FVec Ideal ⟨2, ![n, 1]⟩ .f32 := fun j => ((a (j 0) : ℝ) : EReal)
/-- A list of reals as an array. -/
def vec {n : ℕ} (a : Fin n → ℝ) : FVec Ideal ⟨1, ![n]⟩ .f32 := fun j => ((a (j 0) : ℝ) : EReal)

/-- An array that reads as a table is the table. -/
theorem tab_ext {n k : ℕ} {v : FVec Ideal ⟨2, ![n, k]⟩ .f32} {a : Fin n → Fin k → ℝ}
    (h : ∀ i l, v (ix2 i l) = ((a i l : ℝ) : EReal)) : v = tab a := by
  funext j
  rw [eq_ix2 j]
  exact h _ _
/-- An array that reads as a column is the column. -/
theorem col_ext {n : ℕ} {v : FVec Ideal ⟨2, ![n, 1]⟩ .f32} {a : Fin n → ℝ}
    (h : ∀ i l, v (ix2 i l) = ((a i : ℝ) : EReal)) : v = col a := by
  funext j
  rw [eq_ix2 j]
  exact h _ _

theorem tab_at {n k : ℕ} (a : Fin n → Fin k → ℝ) (i : Fin n) (l : Fin k) : tab a (ix2 i l) = ((a i l : ℝ) : EReal) := rfl
theorem col_at {n : ℕ} (a : Fin n → ℝ) (i : Fin n) (l : Fin 1) : col a (ix2 i l) = ((a i : ℝ) : EReal) := rfl

/-- Numbers below `2 ^ 32` are equal when their words are. -/
theorem word_inj {a b : ℕ} (ha : a < 1024) (hb : b < 1024) : BitVec.ofNat 32 a = BitVec.ofNat 32 b ↔ a = b := by
  constructor
  · intro h
    have h' := congrArg BitVec.toNat h
    simp only [BitVec.toNat_ofNat] at h'
    omega
  · rintro rfl; rfl

/-- A row's squared norm. -/
def sqn (a : Fin 512 → Fin 128 → ℝ) (i : Fin 512) : ℝ := ∑ d, a i d * a i d
/-- The factor that normalizes a row. -/
def fac (a : Fin 512 → Fin 128 → ℝ) (i : Fin 512) : ℝ := 1 / Real.sqrt (max (sqn a i) (eps ^ 2))
/-- The normalized rows. -/
def unit (a : Fin 512 → Fin 128 → ℝ) (i : Fin 512) (d : Fin 128) : ℝ := a i d * fac a i
/-- A row's shift. -/
def sft (a : Fin 512 → Fin 128 → ℝ) (i : Fin 512) : ℝ := if 0 < sqn a i then invTemp else 0

theorem fac_arg_pos (a : Fin 512 → Fin 128 → ℝ) (i : Fin 512) : 0 < max (sqn a i) (eps ^ 2) :=
  lt_max_of_lt_right (pow_pos eps_pos 2)

theorem pay4_eq (a : Fin 512 → Fin 128 → ℝ) : k0_pay4 (F := Ideal) (tab a) = vec (sqn a) := by
  funext j
  pointwise [k0_pay4]
  show (∑ d, ((a (j 0) d : ℝ) : EReal) * ((a (j 0) d : ℝ) : EReal)) = _
  simp only [← EReal.coe_mul, coe_sum]
  rfl

theorem pay5_eq (a : Fin 512 → ℝ) : k0_pay5 (F := Ideal) (vec a) = col a := by
  funext j
  pointwise [k0_pay5]
  rfl

/-- View 1's squared norms, as view 0's. -/
theorem pay6_eq (a : Fin 512 → Fin 128 → ℝ) : k0_pay6 (F := Ideal) (tab a) = col (sqn a) :=
  (show _ = k0_pay5 (F := Ideal) (k0_pay4 (F := Ideal) (tab a)) from rfl).trans (by rw [pay4_eq, pay5_eq])

theorem pay7_eq (a : Fin 512 → Fin 128 → ℝ) : k0_pay7 (F := Ideal) (vec (sqn a)) = col (fac a) := by
  refine col_ext fun i l => ?_
  pointwise [k0_pay7, pay5_eq]
  rw [named_eps, col_at, coe_max, rsqrt_coe (fac_arg_pos a _)]
  rfl

theorem pay8_eq (a : Fin 512 → Fin 128 → ℝ) : k0_pay8 (F := Ideal) (tab a) = col (fac a) :=
  (show _ = k0_pay7 (F := Ideal) (k0_pay4 (F := Ideal) (tab a)) from rfl).trans (by rw [pay4_eq, pay7_eq])

theorem pay9_eq (a : Fin 512 → Fin 128 → ℝ) : k0_pay9 (F := Ideal) (tab a) (vec (sqn a)) = tab (unit a) := by
  funext j
  pointwise [k0_pay9, pay7_eq]
  exact (EReal.coe_mul _ _).symm

theorem pay10_eq (a : Fin 512 → Fin 128 → ℝ) : k0_pay10 (F := Ideal) (tab a) = tab (unit a) :=
  (show _ = k0_pay9 (F := Ideal) (tab a) (k0_pay4 (F := Ideal) (tab a)) from rfl).trans (by rw [pay4_eq, pay9_eq])

theorem pay11_eq (a : Fin 512 → Fin 128 → ℝ) : k0_pay11 (F := Ideal) (vec (sqn a)) = col (sft a) := by
  funext j
  pointwise [k0_pay11, pay5_eq]
  rw [named_temp]
  show (if (0 : EReal) < ((sqn a (j 0) : ℝ) : EReal) then _ else _) = (((if 0 < sqn a (j 0) then invTemp else 0) : ℝ) : EReal)
  by_cases h : 0 < sqn a (j 0)
  · rw [if_pos h, if_pos (by exact_mod_cast h)]
  · rw [if_neg h, if_neg (by exact_mod_cast h)]; rfl

theorem pay12_eq (a : Fin 512 → Fin 128 → ℝ) : k0_pay12 (F := Ideal) (tab a) = col (sft a) :=
  (show _ = k0_pay11 (F := Ideal) (k0_pay4 (F := Ideal) (tab a)) from rfl).trans (by rw [pay4_eq, pay11_eq])

/-- A scaled product of two rows' tables. -/
def prod (u v : Fin 512 → Fin 128 → ℝ) (i j : Fin 512) : ℝ := (∑ d, u i d * v j d) * invTemp

theorem prod_coe (u v : Fin 512 → Fin 128 → ℝ) (i j : Fin 512) :
    (∑ d, tab u (ix2 i d) * tab v (ix2 j d)) * ((invTemp : ℝ) : EReal) = ((prod u v i j : ℝ) : EReal) := by
  show (∑ d, ((u i d : ℝ) : EReal) * ((v j d : ℝ) : EReal)) * _ = _
  simp only [← EReal.coe_mul, coe_sum]
  rfl

theorem pay13_eq (a b : Fin 512 → Fin 128 → ℝ) : k0_pay13 (F := Ideal) (tab a) (tab b) (vec (sqn a))
    = tab (prod (unit a) (unit b)) := by
  funext j
  pointwise [k0_pay13, pay9_eq, pay10_eq]
  rw [named_temp]
  exact prod_coe _ _ _ _

theorem pay14_eq (i l : Fin 512) : (k0_pay14 (ix2 i l) : BitVec 1) = if i = l then 0#1 else 1#1 := by
  pointwise [k0_pay14]
  unfold IntOp.cmpi
  have := word_inj (a := i.val) (b := l.val) (by omega) (by omega)
  by_cases h : i = l
  · subst h; simp
  · rw [if_neg h]
    have h' : ¬ (BitVec.ofNat 32 i.val = BitVec.ofNat 32 l.val) := fun e => h (Fin.ext (this.mp e))
    rw [(bne_iff_ne (a := BitVec.ofNat 32 i.val)).mpr h']
    rfl

/-- The shifted exponentials off the diagonal. -/
def offd (u : Fin 512 → Fin 128 → ℝ) (c : Fin 512 → ℝ) (i j : Fin 512) : ℝ :=
  if i = j then 0 else Real.exp (prod u u i j - c i)

theorem pay15_eq (a : Fin 512 → Fin 128 → ℝ) : k0_pay15 (F := Ideal) (tab a) (vec (sqn a))
    = tab (offd (unit a) (sft a)) := by
  refine tab_ext fun i l => ?_
  pointwise [k0_pay15, pay9_eq, pay11_eq]
  rw [named_temp, prod_coe, col_at, ← EReal.coe_sub, exp_coe, pay14_eq]
  unfold offd
  by_cases h : i = l
  · rw [if_pos h, if_pos h]; rfl
  · rw [if_neg h, if_neg h]; rfl

/-- The shifted exponentials of view 1. -/
def shifted (u : Fin 512 → Fin 128 → ℝ) (c : Fin 512 → ℝ) (i j : Fin 512) : ℝ := Real.exp (prod u u i j - c i)

theorem pay16_eq (a : Fin 512 → Fin 128 → ℝ) : k0_pay16 (F := Ideal) (tab a) = tab (shifted (unit a) (sft a)) := by
  refine tab_ext fun i l => ?_
  pointwise [k0_pay16, pay10_eq, pay12_eq]
  rw [named_temp, prod_coe, col_at, ← EReal.coe_sub, exp_coe]
  rfl

/-- The sum of the shifts and logarithms, over the tables the kernel keeps. -/
def lzSum (c0 c1 : Fin 512 → ℝ) (g o0 e1 : Fin 512 → Fin 512 → ℝ) : ℝ :=
  ∑ i, (c0 i + Real.log (((∑ j, o0 i j) + Real.exp (-c0 i) * ∑ j, Real.exp (g i j)) + eps) + c1 i
    + Real.log (((∑ j, if i = j then 0 else e1 i j) + Real.exp (-c1 i) * ∑ j, Real.exp (g j i)) + eps))

theorem masked (e1 : Fin 512 → Fin 512 → ℝ) (i l : Fin 512) :
    Scalar.select (k0_pay14 (ix2 i l)) (tab e1 (ix2 i l)) 0 = (((if i = l then 0 else e1 i l) : ℝ) : EReal) := by
  rw [pay14_eq]
  by_cases h : i = l
  · rw [if_pos h, if_pos h]; rfl
  · rw [if_neg h, if_neg h]; rfl

theorem pay17_eq (c0 c1 : Fin 512 → ℝ) (g o0 e1 : Fin 512 → Fin 512 → ℝ) (ho : ∀ i j, 0 ≤ o0 i j) (he : ∀ i j, 0 ≤ e1 i j) (j : S1x1.Idx) :
    k0_pay17 (F := Ideal) (col c0) (col c1) (tab g) k0_pay14 (tab o0) (tab e1) j = ((lzSum c0 c1 g o0 e1 : ℝ) : EReal) := by
  pointwise [k0_pay17]
  have hx : ∀ (c : ℝ) (G : Fin 512 → ℝ), 0 ≤ Real.exp (-c) * ∑ k, Real.exp (G k) := fun c G =>
    mul_nonneg (Real.exp_pos _).le (Finset.sum_nonneg fun k _ => (Real.exp_pos _).le)
  have h0 : ∀ i, 0 < ((∑ j, o0 i j) + Real.exp (-c0 i) * ∑ j, Real.exp (g i j)) + eps := fun i =>
    add_pos_of_nonneg_of_pos (add_nonneg (Finset.sum_nonneg fun k _ => ho i k) (hx _ _)) eps_pos
  have h1 : ∀ i, 0 < ((∑ j, if i = j then 0 else e1 i j) + Real.exp (-c1 i) * ∑ j, Real.exp (g j i)) + eps := fun i =>
    add_pos_of_nonneg_of_pos (add_nonneg (Finset.sum_nonneg fun k _ => by split_ifs; exacts [le_rfl, he i k]) (hx _ _)) eps_pos
  simp only [masked]
  simp only [tab_at, col_at, zero_sub, ← EReal.coe_neg, exp_coe, coe_sum, word_eps, ← EReal.coe_mul, ← EReal.coe_add,
    log_coe (h0 _), log_coe (h1 _), Finset.univ_unique, Finset.sum_const, Finset.card_singleton, one_smul]
  rfl

theorem pay18_eq (s0 s1 r0 r1 : Fin 512 → ℝ) : k0_pay18 (F := Ideal) (col s0) (col s1) (col r0) (col r1)
    = col fun i => (s0 i * r0 i * r0 i + s1 i * r1 i * r1 i) * invTemp := by
  refine col_ext fun i l => ?_
  pointwise [k0_pay18]
  rw [named_temp]
  simp only [col_at, ← EReal.coe_mul, ← EReal.coe_add]

/-- The sum of both views' rows. -/
def bothRow (u v : Fin 512 → Fin 128 → ℝ) (i : Fin 512) (d : Fin 128) : ℝ := u i d + v i d

theorem pay19_eq (u v : Fin 512 → Fin 128 → ℝ) (w : Fin 128 → Fin 512 → ℝ) : k0_pay19 (F := Ideal) (tab w) (tab u) (tab v)
    = tab fun i d => bothRow u v i d * ∑ k, w k i * ∑ j, w k j * bothRow u v j d := by
  refine tab_ext fun i l => ?_
  pointwise [k0_pay19]
  simp only [tab_at, ← EReal.coe_mul, ← EReal.coe_add, coe_sum]
  rfl

theorem pay1_eq (w : Fin 512 → ℝ) (l : ℝ) (g : Fin 512 → ℝ) (v : Fin 512 → Fin 128 → ℝ) (j : S1x1.Idx) :
    k0_pay1 (F := Ideal) (fun j => ((w (j 1) : ℝ) : EReal)) (fun _ => (l : EReal)) (col g) (tab v) j
      = ((-1 / 1024 * ((∑ i, w i * ((∑ d, v i d) * invTemp - g i)) - l) : ℝ) : EReal) := by
  pointwise [k0_pay1]
  rw [named_temp, word_scale]
  show _ * ((∑ x, ((w x : ℝ) : EReal) * ((∑ y, ((v x y : ℝ) : EReal)) * _ - ((g x : ℝ) : EReal))) - _) = _
  simp only [coe_sum, ← EReal.coe_mul, ← EReal.coe_sub]

theorem pay2_eq (L : IVec S512 32) (lab : Fin 512 → Fin 128) (h : ∀ i, L (ix1 i) = BitVec.ofNat 32 (lab i).val) :
    k0_pay2 (F := Ideal) L = tab (hot lab) := by
  refine tab_ext fun k i => ?_
  pointwise [k0_pay2]
  rw [h]
  unfold IntOp.cmpi hot
  have := word_inj (a := k.val) (b := (lab i).val) (by omega) (by omega)
  by_cases e : k = lab i
  · rw [if_pos e, e, beq_self_eq_true]
    show ((((1 : ℤ) : ℝ)) : EReal) = _
    norm_num
  · rw [if_neg e]
    have h' : ¬ (BitVec.ofNat 32 k.val = BitVec.ofNat 32 (lab i).val) := fun q => e (Fin.ext (this.mp q))
    rw [(beq_eq_false_iff_ne (a := BitVec.ofNat 32 k.val)).mpr h']
    show ((((0 : ℤ) : ℝ)) : EReal) = _
    norm_num

theorem pay3_eq (L : IVec S512 32) (lab : Fin 512 → Fin 128) (h : ∀ i, L (ix1 i) = BitVec.ofNat 32 (lab i).val) :
    k0_pay3 (F := Ideal) L = fun j => ((invM lab (j 1) : ℝ) : EReal) := by
  have key : ∀ (o : Fin 1) (i : Fin 512), k0_pay3 (F := Ideal) L (ix2 o i) = ((invM lab i : ℝ) : EReal) := by
    intro o i
    pointwise [k0_pay3, pay2_eq L lab h]
    have e1 : (1 : EReal) = ((1 : ℝ) : EReal) := rfl
    rw [word_two, e1]
    simp only [tab_at, coe_sum, ← EReal.coe_mul, ← EReal.coe_sub, coe_max]
    rw [div_coe (ne_of_gt (lt_max_of_lt_right one_pos))]
    rfl
  funext j
  rw [eq_ix2 j]
  exact key _ _

end Cert.Loss

end
-- ==== Proof.KernelValue.lean ====
/- The word the kernel stores is the loss of the normalized rows. -/
module

public import proofs.«01_k».proof.Proof.KernelRead

@[expose] public section

set_option maxRecDepth 16384

noncomputable section

namespace Cert.Loss

open Idealize.ShloMosaic Cert.KernelIdeal Cert.KernelIdeal.Gen

/-- One view of the features. -/
def viewOf (f : Fin 512 → Fin 2 → Fin 128 → ℝ) (v : Fin 2) (i : Fin 512) (d : Fin 128) : ℝ := f i v d
/-- The normalized rows of the features. -/
def rows (f : Fin 512 → Fin 2 → Fin 128 → ℝ) (v : Fin 2) (i : Fin 512) (d : Fin 128) : ℝ := unit (viewOf f v) i d
/-- The rows' shifts. -/
def shifts (f : Fin 512 → Fin 2 → Fin 128 → ℝ) (p : Fin 2 × Fin 512) : ℝ := sft (viewOf f p.1) p.2

theorem view0_eq (X : Vec Ideal S512x2x128 .f32) (f : Fin 512 → Fin 2 → Fin 128 → ℝ)
    (hX : ∀ i v d, X (ix3 i v d) = ((f i v d : ℝ) : EReal)) : view0 X = tab (viewOf f 0) :=
  funext fun j => hX (j 0) 0 (j 1)
theorem view1_eq (X : Vec Ideal S512x2x128 .f32) (f : Fin 512 → Fin 2 → Fin 128 → ℝ)
    (hX : ∀ i v d, X (ix3 i v d) = ((f i v d : ℝ) : EReal)) : view1 X = tab (viewOf f 1) :=
  funext fun j => hX (j 0) 1 (j 1)

/-- A normalized row's product with itself, from its squared norm. -/
theorem sqn_unit (a : Fin 512 → Fin 128 → ℝ) (i : Fin 512) : sqn a i * fac a i * fac a i = ∑ d, unit a i d * unit a i d := by
  unfold sqn unit
  rw [Finset.sum_mul, Finset.sum_mul]
  exact Finset.sum_congr rfl fun d _ => by ring

theorem word_eq (a b : Fin 512 → Fin 128 → ℝ) (L : IVec S512 32) (lab : Fin 512 → Fin 128)
    (hL : ∀ i, L (ix1 i) = BitVec.ofNat 32 (lab i).val) (j : S1x1.Idx) :
    word (F := Ideal) (tab a) (tab b) L j = ((-1 / 1024 * ((∑ i, invM lab i * ((∑ d, bothRow (unit a) (unit b) i d * ∑ k, hot lab k i * ∑ j, hot lab k j * bothRow (unit a) (unit b) j d) * invTemp
        - (sqn a i * fac a i * fac a i + sqn b i * fac b i * fac b i) * invTemp))
      - lzSum (sft a) (sft b) (prod (unit a) (unit b)) (offd (unit a) (sft a)) (shifted (unit b) (sft b))) : ℝ) : EReal) := by
  unfold word
  have h17 : k0_pay17 (F := Ideal) (col (sft a)) (col (sft b)) (tab (prod (unit a) (unit b))) k0_pay14 (tab (offd (unit a) (sft a))) (tab (shifted (unit b) (sft b)))
      = fun _ => ((lzSum (sft a) (sft b) (prod (unit a) (unit b)) (offd (unit a) (sft a)) (shifted (unit b) (sft b)) : ℝ) : EReal) :=
    funext fun j => pay17_eq _ _ _ _ _ (fun i j => by unfold offd; split_ifs; exacts [le_rfl, (Real.exp_pos _).le])
      (fun i j => (Real.exp_pos _).le) j
  rw [pay4_eq, pay5_eq, pay6_eq, pay7_eq, pay8_eq, pay9_eq, pay10_eq, pay11_eq, pay12_eq, pay13_eq, pay15_eq, pay16_eq, h17, pay18_eq,
    pay2_eq L lab hL, pay3_eq L lab hL, pay19_eq, pay1_eq]

/-- THE KERNEL'S VALUE. -/
theorem kernel_value (X : Vec Ideal S512x2x128 .f32) (L : IVec S512 32) (f : Fin 512 → Fin 2 → Fin 128 → ℝ) (lab : Fin 512 → Fin 128)
    (hX : ∀ i v d, X (ix3 i v d) = ((f i v d : ℝ) : EReal)) (hL : ∀ i, L (ix1 i) = BitVec.ofNat 32 (lab i).val) (j : S1x1.Idx) :
    word (F := Ideal) (view0 X) (view1 X) L j = ((refLoss (rows f) lab invTemp eps 1024 (shifts f) : ℝ) : EReal) := by
  rw [view0_eq X f hX, view1_eq X f hX, word_eq _ _ L lab hL, ← kerLoss_eq]
  simp only [sqn_unit]
  rfl

end Cert.Loss

end
-- ==== Proof.Take.lean ====
/- A lookup in the cache's table of flags, as both programs write it: by the index word alone. -/
module

public import Idealize.ShloMosaic.PureOps.Ideal.Laws
public import Idealize.ShloMosaic.Lib.Pointwise
public import Idealize.ShloMosaic.Lib.StableHlo.Predicate

@[expose] public section

noncomputable section

namespace Cert.Loss

open Idealize.ShloMosaic

/-- A sample index with a negative one counted from the end. -/
def wrap (w : BitVec 32) : BitVec 32 := Scalar.select (IntOp.cmpi .slt w 0#32) (IntOp.addi w 100000#32) w

/-- Where a sample index lands in the table. -/
def place (w : BitVec 32) : Fin 100000 := ⟨min (wrap w).toInt.toNat (100000 - 1), by omega⟩

/-- The flag a sample index finds: the table's where the index is in range, one elsewhere. -/
def look (cv : (⟨1, ![100000]⟩ : Shape).Idx → BitVec 1) (w : BitVec 32) : BitVec 1 :=
  Scalar.select (Finset.univ.fold IntOp.andi (1#1) fun _ : Fin 1 =>
    IntOp.andi (IntOp.cmpi .sge (wrap w) 0#32) (IntOp.cmpi .sle (wrap w) 99999#32)) (cv (ix1 (place w))) (1#1)

/-- A gather of single table entries, read at a position. -/
theorem gather_at {n : ℕ} (d : GatherDims ⟨1, ![100000]⟩ ⟨2, ![n, 1]⟩ ⟨1, ![n]⟩)
    (hcoll : d.collapsedSliceDims = [0]) (hob : d.operandBatchingDims = []) (hsim : d.startIndexMap = [0]) (hivd : d.indexVectorDim = 1)
    (x : (⟨1, ![100000]⟩ : Shape).Idx → BitVec 1) (idx : IVec ⟨2, ![n, 1]⟩ 32) (p : Fin n) (w : BitVec 32)
    (hw : idx (ix2 p 0) = wrap w) : Host.gather d x idx (ix1 p) = x (ix1 (place w)) := by
  have e1 : (ix1 p : (⟨1, ![n]⟩ : Shape).Idx) = Shape.Idx.ofFin p := by
    funext a; match a with | ⟨0, _⟩ => rfl
  have e2 : StableHlo.Predicate.ixP p = ix2 p 0 := by
    funext a; match a with | ⟨0, _⟩ => rfl | ⟨1, _⟩ => rfl
  rw [e1, StableHlo.Predicate.gather_take d hcoll hob hsim hivd x idx p (by omega)]
  refine congrArg x (funext fun a => ?_)
  match a with
  | ⟨0, _⟩ =>
    refine Fin.ext ?_
    show min (idx (StableHlo.Predicate.ixP p)).toInt.toNat (100000 - 1) = _
    rw [e2, hw]
    rfl

theorem andi_one {a b : BitVec 1} : IntOp.andi a b = 1#1 ↔ a = 1#1 ∧ b = 1#1 := by
  revert a b; decide
theorem ori_one {a b : BitVec 1} : IntOp.ori a b = 1#1 ↔ a = 1#1 ∨ b = 1#1 := by
  revert a b; decide
theorem not_one {a : BitVec 1} : (~~~a) = 1#1 ↔ a = 0#1 := by
  revert a; decide
theorem bool_one {p : Prop} [Decidable p] : BitVec.ofBool (decide p) = 1#1 ↔ p := by
  by_cases h : p <;> simp [h]

end Cert.Loss

end
-- ==== Proof.RefRead.lean ====
/- The reference's operations read over the reals: each is the real function its lemma names. -/
module

public import proofs.«01_k».proof.Proof.KernelValue
public import proofs.«01_k».proof.Proof.Take
public import proofs.«01_k».proof.Proof.Gen.ReferenceIdeal.Read

@[expose] public section

set_option maxRecDepth 16384

noncomputable section

namespace Cert.Loss

open Idealize.ShloMosaic Cert.ReferenceIdeal Cert.ReferenceIdeal.Gen Cert.ReferenceIdeal.Read

/-- A row of the stacked views: view `r / 512` of sample `r % 512`. -/
def rowOf : Fin 1024 ≃ Fin 2 × Fin 512 where
  toFun r := (⟨r.val / 512, by omega⟩, ⟨r.val % 512, by omega⟩)
  invFun p := ⟨p.1.val * 512 + p.2.val, by omega⟩
  left_inv r := Fin.ext (by show r.val / 512 * 512 + r.val % 512 = r.val; omega)
  right_inv p := by
    obtain ⟨v, i⟩ := p
    refine Prod.ext (Fin.ext ?_) (Fin.ext ?_)
    · show (v.val * 512 + i.val) / 512 = v.val; omega
    · show (v.val * 512 + i.val) % 512 = i.val; omega

theorem vec_ext {n : ℕ} {v : FVec Ideal ⟨1, ![n]⟩ .f32} {a : Fin n → ℝ}
    (h : ∀ i, v (ix1 i) = ((a i : ℝ) : EReal)) : v = vec a := by
  funext j
  rw [eq_ix1 j]
  exact h _
theorem vec_at {n : ℕ} (a : Fin n → ℝ) (i : Fin n) : vec a (ix1 i) = ((a i : ℝ) : EReal) := rfl

/-- One over the greater of a row's norm and the bound is the row's normalizing factor. -/
theorem div_norm (a : Fin 512 → Fin 128 → ℝ) (i : Fin 512) (d : Fin 128) : a i d / max (Real.sqrt (sqn a i)) eps = unit a i d := by
  have h : Real.sqrt (max (sqn a i) (eps ^ 2)) = max (Real.sqrt (sqn a i)) eps := by
    rw [Real.sqrt_monotone.map_max, Real.sqrt_sq eps_pos.le]
  unfold unit fac
  rw [h]
  ring

/-- A row's squared norm is positive only if the row is normalized to one. -/
theorem unit_norm (a : Fin 512 → Fin 128 → ℝ) (i : Fin 512) (hn : sqn a i = 0 ∨ eps ≤ Real.sqrt (sqn a i)) (h : 0 < sqn a i) :
    ∑ d, unit a i d * unit a i d = 1 := by
  have he : eps ^ 2 ≤ sqn a i := (Real.le_sqrt' eps_pos).mp (hn.resolve_left h.ne')
  rw [← sqn_unit, fac, max_eq_left he]
  have hs : Real.sqrt (sqn a i) ≠ 0 := (Real.sqrt_pos.mpr h).ne'
  have hm := Real.mul_self_sqrt h.le
  field_simp
  rw [pow_two, hm]

/-- A row whose squared norm is not positive is zero. -/
theorem unit_zero (a : Fin 512 → Fin 128 → ℝ) (i : Fin 512) (h : ¬ 0 < sqn a i) (d : Fin 128) : unit a i d = 0 := by
  have h0 : sqn a i = 0 := le_antisymm (not_lt.mp h) (Finset.sum_nonneg fun d _ => mul_self_nonneg _)
  have h1 := (Finset.sum_eq_zero_iff_of_nonneg fun d _ => mul_self_nonneg (a i d)).mp h0 d (Finset.mem_univ d)
  unfold unit
  rw [mul_self_eq_zero.mp h1, zero_mul]

/-- A truth value as a float. -/
theorem uitofp_if {p : Prop} [Decidable p] (c : BitVec 1) (h1 : p → c = 1#1) (h0 : ¬p → c = 0#1) :
    (FloatOps.uitofp FTy.f32 c : Ideal FTy.f32) = (((if p then 1 else 0 : ℝ)) : EReal) := by
  by_cases h : p
  · rw [h1 h, if_pos h]
    show ((((1 : ℕ) : ℝ)) : EReal) = _
    norm_num
  · rw [h0 h, if_neg h]
    show ((((0 : ℕ) : ℝ)) : EReal) = _
    norm_num

/-- Two words below 1024 compare as their numbers do. -/
theorem uitofp_eq {a b : ℕ} (ha : a < 1024) (hb : b < 1024) {p : Prop} [Decidable p] (hp : p ↔ a = b) :
    (FloatOps.uitofp FTy.f32 (IntOp.cmpi CmpIPredicate.eq (BitVec.ofNat 32 a) (BitVec.ofNat 32 b)) : Ideal FTy.f32)
      = (((if p then 1 else 0 : ℝ)) : EReal) := by
  refine uitofp_if _ (fun h => ?_) (fun h => ?_)
  · unfold IntOp.cmpi
    rw [hp.mp h]
    simp
  · have h' : ¬ BitVec.ofNat 32 a = BitVec.ofNat 32 b := fun e => h (hp.mpr ((word_inj ha hb).mp e))
    unfold IntOp.cmpi
    rw [beq_eq_false_iff_ne.mpr h']
    rfl

section
variable (x0 : FVec Ideal S512x2x128 .f32) (x1 x2 : IVec S512 32) (x3 : FVec Ideal S100000x128 .f32) (x4 : IVec S100000 1)
  (f : Fin 512 → Fin 2 → Fin 128 → ℝ) (lab : Fin 512 → Fin 128)

/-- The features, normalized. -/
theorem v4_at (hX : ∀ i v d, x0 (ix3 i v d) = ((f i v d : ℝ) : EReal)) (i : Fin 512) (v : Fin 2) (d : Fin 128) :
    val_main_v4 (F := Ideal) x0 (ix3 i v d) = ((rows f v i d : ℝ) : EReal) := by
  pointwise [val_main_v4, val_main_v3, val_main_v2, val_main_v1, val_main_cst, val_main_v0, val_main_call0_v2, val_main_call0_v1, val_main_call0_cst, val_main_call0_v0]
  simp only [hX, ← EReal.coe_mul, coe_sum]
  rw [sqrt_coe (Finset.sum_nonneg fun d _ => mul_self_nonneg _), word_eps, coe_max, div_coe (lt_max_of_lt_right eps_pos).ne']
  exact congrArg _ (div_norm (viewOf f v) i d)

/-- The rows of both views, stacked. -/
theorem v6_eq (hX : ∀ i v d, x0 (ix3 i v d) = ((f i v d : ℝ) : EReal)) :
    val_main_v6 (F := Ideal) x0 = tab fun r d => rows f (rowOf r).1 (rowOf r).2 d := by
  refine tab_ext fun r d => ?_
  pointwise [val_main_v6, val_main_v5]
  exact v4_at x0 f hX _ _ _

/-- One off the diagonal, zero on it. -/
theorem v23_eq : val_main_v23 (F := Ideal) = tab fun r s => 1 - if rowOf r = rowOf s then (1 : ℝ) else 0 := by
  refine tab_ext fun r d => ?_
  pointwise [val_main_v23, val_main_v22, val_main_v21, val_main_v20, val_main_v19, val_main_v18, val_main_v17, val_main_v16, val_main_c, val_main_cst_0]
  rw [show IntOp.addi (BitVec.ofNat 32 r.val) 0#32 = BitVec.ofNat 32 r.val from BitVec.add_zero _,
    uitofp_eq r.isLt d.isLt (p := rowOf r = rowOf d) (by rw [rowOf.apply_eq_iff_eq, Fin.ext_iff]), EReal.coe_sub]
  rfl

/-- One where two rows' samples have one class. -/
theorem v15_eq (hL : ∀ i, x1 (ix1 i) = BitVec.ofNat 32 (lab i).val) :
    val_main_v15 (F := Ideal) x1 = tab fun r s => if lab (rowOf r).2 = lab (rowOf s).2 then (1 : ℝ) else 0 := by
  refine tab_ext fun r d => ?_
  pointwise [val_main_v15, val_main_v14, val_main_v13, val_main_v12, val_main_v11, val_main_v10, val_main_v9, val_main_v8, val_main_v7]
  rw [hL, hL]
  exact uitofp_eq (by omega) (by omega) Fin.ext_iff

/-- The positives. -/
theorem v24_eq (hL : ∀ i, x1 (ix1 i) = BitVec.ofNat 32 (lab i).val) :
    val_main_v24 (F := Ideal) x1 = tab fun r s => pos lab (rowOf r) (rowOf s) := by
  refine tab_ext fun r d => ?_
  pointwise [val_main_v24, v15_eq x1 lab hL, v23_eq]
  rw [tab_at, tab_at, ← EReal.coe_mul]
  rfl

/-- The logits. -/
theorem v28_eq (hX : ∀ i v d, x0 (ix3 i v d) = ((f i v d : ℝ) : EReal)) :
    val_main_v28 (F := Ideal) x0 = tab fun r s => logit (rows f) invTemp (rowOf r) (rowOf s) := by
  refine tab_ext fun r d => ?_
  pointwise [val_main_v28, val_main_v27, val_main_v26, val_main_v25, val_main_cst_1, v6_eq x0 f hX]
  simp only [tab_at, ← EReal.coe_mul, coe_sum]
  rw [word_temp, div_coe (one_div_pos.mpr invTemp_pos).ne', div_div_eq_mul_div, div_one]
  rfl

/-- A row's greatest logit is its shift: the row's logit with itself. -/
theorem v29_eq (hX : ∀ i v d, x0 (ix3 i v d) = ((f i v d : ℝ) : EReal))
    (hN : ∀ i v, (∑ d, f i v d * f i v d) = 0 ∨ eps ≤ Real.sqrt (∑ d, f i v d * f i v d)) :
    val_main_v29 (F := Ideal) x0 = vec fun r => shifts f (rowOf r) := by
  refine vec_ext fun r => ?_
  pointwise [val_main_v29, val_main_cst_2, v28_eq x0 f hX]
  have h1 : ∀ p : Fin 2 × Fin 512, 0 < sqn (viewOf f p.1) p.2 → ∑ d, rows f p.1 p.2 d * rows f p.1 p.2 d = 1 :=
    fun p hp => unit_norm _ _ (hN p.2 p.1) hp
  have h0 : ∀ p : Fin 2 × Fin 512, ¬ 0 < sqn (viewOf f p.1) p.2 → ∀ d, rows f p.1 p.2 d = 0 := fun p hp d => unit_zero _ _ hp d
  have hs : ∀ p, shift (fun p : Fin 2 × Fin 512 => sqn (viewOf f p.1) p.2) invTemp p = shifts f p := fun _ => rfl
  refine le_antisymm (Finset.fold_max_le _ |>.mpr ⟨by rw [word_neg_inf]; exact bot_le, fun s _ => ?_⟩)
    (Finset.le_fold_max _ |>.mpr (Or.inr ⟨r, Finset.mem_univ _, ?_⟩))
  · rw [tab_at, EReal.coe_le_coe_iff, ← hs]
    exact logit_le_shift _ _ invTemp_pos.le _ h1 h0 _ _
  · rw [tab_at, EReal.coe_le_coe_iff, logit_self _ _ _ h1 h0, hs]

/-- The log-probabilities. -/
theorem v41_eq (hX : ∀ i v d, x0 (ix3 i v d) = ((f i v d : ℝ) : EReal))
    (hN : ∀ i v, (∑ d, f i v d * f i v d) = 0 ∨ eps ≤ Real.sqrt (∑ d, f i v d * f i v d)) :
    val_main_v41 (F := Ideal) x0 = tab fun r s => logProb (rows f) invTemp eps (shifts f) (rowOf r) (rowOf s) := by
  refine tab_ext fun r d => ?_
  pointwise [val_main_v41, val_main_v40, val_main_v39, val_main_v38, val_main_v37, val_main_v36, val_main_v35, val_main_v34, val_main_v33, val_main_v32, val_main_v31, val_main_v30,
    val_main_cst_4, val_main_cst_3, v23_eq, v29_eq x0 f hX hN, v28_eq x0 f hX]
  simp only [tab_at, vec_at, word_eps, ← EReal.coe_sub, exp_coe, ← EReal.coe_mul, coe_sum, ← EReal.coe_add]
  have hd : (∑ s : Fin 1024, Real.exp (logit (rows f) invTemp (rowOf r) (rowOf s) - shifts f (rowOf r)) * (1 - if rowOf r = rowOf s then (1 : ℝ) else 0))
      = den (rows f) invTemp (shifts f) (rowOf r) :=
    Equiv.sum_comp rowOf fun q => Real.exp (logit (rows f) invTemp (rowOf r) q - shifts f (rowOf r)) * (1 - if rowOf r = q then (1 : ℝ) else 0)
  have hp : 0 < den (rows f) invTemp (shifts f) (rowOf r) + eps := by
    refine add_pos_of_nonneg_of_pos (Finset.sum_nonneg fun q _ => mul_nonneg (Real.exp_pos _).le ?_) eps_pos
    split_ifs <;> norm_num
  rw [hd, log_coe hp, ← EReal.coe_sub]
  rfl

/-- How many positives a row has. -/
theorem v45_eq (hL : ∀ i, x1 (ix1 i) = BitVec.ofNat 32 (lab i).val) : val_main_v45 (F := Ideal) x1 = vec fun r => npos lab (rowOf r) := by
  refine vec_ext fun r => ?_
  pointwise [val_main_v45, val_main_cst_5, v24_eq x1 lab hL]
  simp only [tab_at, coe_sum]
  exact congrArg _ (Equiv.sum_comp rowOf fun q => pos lab (rowOf r) q)

/-- The uniform weights. -/
theorem v53_eq (hL : ∀ i, x1 (ix1 i) = BitVec.ofNat 32 (lab i).val) :
    val_main_v53 (F := Ideal) x1 = tab fun r s => weight lab (rowOf r) (rowOf s) := by
  refine tab_ext fun r d => ?_
  pointwise [val_main_v53, val_main_call1_v2, val_main_call1_v1, val_main_call1_v0, val_main_cst_9, val_main_v52, val_main_v51, val_main_v50, val_main_v49, val_main_v48, val_main_v47, val_main_v46, v45_eq x1 lab hL,
    val_main_cst_8, val_main_cst_7, val_main_cst_6, v24_eq x1 lab hL]
  rw [tab_at, vec_at]
  unfold weight
  by_cases h : 0 < pos lab (rowOf r) (rowOf d)
  · rw [if_pos h, if_pos (by exact_mod_cast h), ← EReal.coe_one, coe_max, div_coe (lt_max_of_lt_right one_pos).ne']
  · rw [if_neg h, if_neg (by exact_mod_cast h)]
    show Ideal.ofBits .f32 0#32 = _
    exact word_zero

/-- The flags the rows' sample indices find. -/
theorem v100_at (r : Fin 1024) : val_main_v100 (F := Ideal) x2 x4 (ix1 r) = look x4 (x2 (ix1 (rowOf r).2)) := by
  have hg := gather_at gather_S100000_S1024x1_S1024_n_0_n_n_0_1_1 rfl rfl rfl rfl x4 (val_main_call13_v5 (F := Ideal) x2) r (x2 (ix1 (rowOf r).2))
    (by pointwise [val_main_call13_v5, val_main_call13_v4, val_main_call13_v3, val_main_call13_v2, val_main_call13_v1, val_main_call13_v0, val_main_call13_c, val_main_call13_c_0, val_main_v44, val_main_v43, val_main_v42]
        rfl)
  have e : val_main_v100 (F := Ideal) x2 x4 (ix1 r) = Scalar.select (val_main_call13_v12 (F := Ideal) x2 (ix1 r))
      (Host.gather gather_S100000_S1024x1_S1024_n_0_n_n_0_1_1 x4 (val_main_call13_v5 (F := Ideal) x2) (ix1 r)) (1#1) := by
    rfl
  rw [e, hg]
  pointwise [val_main_call13_v12, val_main_call13_v11, val_main_call13_v10, val_main_call13_v9, val_main_call13_v8, val_main_call13_v7, val_main_call13_v6,
    val_main_call13_v5, val_main_call13_v4, val_main_call13_v3, val_main_call13_v2, val_main_call13_v1, val_main_call13_v0, val_main_call13_c, val_main_call13_c_0, val_main_call13_c_1, val_main_call13_c_2, val_main_call13_c_3,
    val_main_v44, val_main_v43, val_main_v42]
  rfl

/-- A row whose flag is zero is not weighted by rank. -/
theorem v111_at (hC : ∀ i, look x4 (x2 (ix1 i)) = 0#1) (r : Fin 1024) (l : Fin 1) : val_main_v111 (F := Ideal) x1 x2 x4 (ix2 r l) = 0#1 := by
  pointwise [val_main_v111, val_main_v110, val_main_cst_28, val_main_v109, val_main_v106, val_main_v101]
  rw [v100_at, hC]
  have hz : (FloatOps.uitofp FTy.f32 (0#1) : Ideal FTy.f32) = (0 : EReal) := by
    show ((((0 : ℕ) : ℝ)) : EReal) = _
    norm_num
  have hm : ∀ y : EReal, (FloatOps.uitofp FTy.f32 (0#1) : Ideal FTy.f32) * y = (0 : EReal) := fun y => by rw [hz]; exact zero_mul y
  refine (congrArg (fun y : EReal => BitVec.ofBool (decide (Ideal.ofBits .f32 0x3F000000#32 < y))) (hm _)).trans ?_
  rw [word_half]
  refine congrArg BitVec.ofBool (decide_eq_false (not_lt.mpr ?_))
  exact_mod_cast (by norm_num : (0 : ℝ) ≤ 1 / 2)

/-- The weights of the rows, none of them ranked. -/
theorem v116_eq (hL : ∀ i, x1 (ix1 i) = BitVec.ofNat 32 (lab i).val) (hC : ∀ i, look x4 (x2 (ix1 i)) = 0#1) :
    val_main_v116 (F := Ideal) x0 x1 x2 x3 x4 = tab fun r s => weight lab (rowOf r) (rowOf s) := by
  refine tab_ext fun r d => ?_
  pointwise [val_main_v116, val_main_call16_v2, val_main_call16_v1, val_main_call16_v0, val_main_cst_30, val_main_v115, val_main_v114, val_main_cst_29, val_main_v113, v45_eq x1 lab hL,
    val_main_v112, val_main_call15_v0, v53_eq x1 lab hL]
  rw [v111_at x1 x2 x4 hC, tab_at, vec_at]
  have h : (0 : EReal) < ((npos lab (rowOf r) : ℝ) : EReal) := by
    exact_mod_cast lt_of_lt_of_le one_pos (npos_pos lab (rowOf r))
  rw [if_pos h]
  rfl

/-- THE REFERENCE'S VALUE. -/
theorem reference_value (hX : ∀ i v d, x0 (ix3 i v d) = ((f i v d : ℝ) : EReal))
    (hN : ∀ i v, (∑ d, f i v d * f i v d) = 0 ∨ eps ≤ Real.sqrt (∑ d, f i v d * f i v d))
    (hL : ∀ i, x1 (ix1 i) = BitVec.ofNat 32 (lab i).val) (hC : ∀ i, look x4 (x2 (ix1 i)) = 0#1) :
    val_main_v122 (F := Ideal) x0 x1 x2 x3 x4 = fun _ => ((refLoss (rows f) lab invTemp eps 1024 (shifts f) : ℝ) : EReal) := by
  funext j
  pointwise [val_main_v122, val_main_cst_34, val_main_v121, val_main_cst_33, val_main_v120, val_main_v119, val_main_cst_32, val_main_v118, val_main_cst_31, val_main_v117,
    v116_eq x0 x1 x2 x3 x4 lab hL hC, v41_eq x0 f hX hN]
  simp only [tab_at, word_neg_one, word_rows, ← EReal.coe_mul, coe_sum]
  rw [div_coe (by norm_num)]
  unfold refLoss
  rw [← Equiv.sum_comp rowOf]
  refine congrArg (fun y : ℝ => ((y / 1024 : ℝ) : EReal)) (Finset.sum_congr rfl fun r _ => congrArg (fun y : ℝ => -1 * y) ?_)
  exact Equiv.sum_comp rowOf fun q => weight lab (rowOf r) q * logProb (rows f) invTemp eps (shifts f) (rowOf r) q

end

end Cert.Loss

end
-- ==== Proof.Pre.lean ====
/- What the precondition says of the arguments. -/
module

public import proofs.«01_k».proof.Pre_uncached_batch
public import proofs.«01_k».proof.Proof.Consts
public import proofs.«01_k».proof.Proof.Take

@[expose] public section

set_option maxRecDepth 16384

noncomputable section

namespace Cert.Loss

open Idealize.ShloMosaic Cert.Pre_uncached_batch

/-- The predicate's shape relations. -/
theorem preFacts : Cert.Pre_uncached_batch.Facts where
  reducesTo_S512x2x128_S512x2_d2 := by decide
  h_S_ := by decide
  bcast_S_S512x2 := by decide
  bcast_S_S512 := by decide
  bcast_S512_S512x1_0 := by decide
  bcast_S_S512x1 := by decide
  bcast_S1_S1x1_1 := by decide
  bcast_S1x1_S512x1_0_1 := by decide
  reducesTo_S512x1_S512_d1 := by decide
  bcast_S512x1_S512x2_0_1 := by decide
  gather_S100000_S512x1_S512_n_0_n_n_0_1_1_wf := by decide

/-- The sum of the squares of a row. -/
def rowSq (x0 : FVec Ideal S512x2x128 .f32) (i : Fin 512) (v : Fin 2) : EReal := ∑ d, x0 (ix3 i v d) * x0 (ix3 i v d)

/-- The predicate at one row. -/
theorem fn_at [Cert.Pre_uncached_batch.Facts] (x0 : FVec Ideal S512x2x128 .f32) (x1 x2 : IVec S512 32) (x3 : FVec Ideal S100000x128 .f32) (x4 : IVec S100000 1)
    (i : Fin 512) (v : Fin 2) (h : fn x0 x1 x2 x3 x4 (ix2 i v) = 1#1) :
    (Ideal.sqrt (rowSq x0 i v) < ⊤ ∧ (Ideal.sqrt (rowSq x0 i v) = 0 ∨ ((eps : ℝ) : EReal) ≤ Ideal.sqrt (rowSq x0 i v)))
      ∧ (IntOp.cmpi .sge (x1 (ix1 i)) 0#32 = 1#1 ∧ IntOp.cmpi .slt (x1 (ix1 i)) 128#32 = 1#1) ∧ look x4 (x2 (ix1 i)) = 0#1 := by
  have hg := gather_at gather_S100000_S512x1_S512_n_0_n_n_0_1_1 rfl rfl rfl rfl x4
    (broadcastInDim S512x1 ![0] Facts.bcast_S512_S512x1_0
      (select (cmpi .slt x2 (broadcastInDim S512 ![] Facts.bcast_S_S512 (constantI S_ 32 0#32)))
        (addi x2 (broadcastInDim S512 ![] Facts.bcast_S_S512 (constantI S_ 32 100000#32))) x2)) i (x2 (ix1 i))
    (by pointwise [wrap])
  have e : fn x0 x1 x2 x3 x4 (ix2 i v) = IntOp.andi
      (IntOp.andi (BitVec.ofBool (decide (Ideal.sqrt (rowSq x0 i v) < Ideal.ofBits .f32 0x7F800000#32)))
        (IntOp.ori (BitVec.ofBool (decide (Ideal.sqrt (rowSq x0 i v) = 0)))
          (BitVec.ofBool (decide (Ideal.ofBits .f32 0x2B8CBCCC#32 ≤ Ideal.sqrt (rowSq x0 i v))))))
      (IntOp.andi (IntOp.andi (IntOp.cmpi .sge (x1 (ix1 i)) 0#32) (IntOp.cmpi .slt (x1 (ix1 i)) 128#32)) (~~~look x4 (x2 (ix1 i)))) := by
    pointwise [fn, fn_part1, fn_part2]
    rw [hg]
    rfl
  rw [e, word_inf, word_eps] at h
  simp only [andi_one, ori_one, not_one, bool_one] at h
  exact h

/-- A row whose norm is finite holds reals. -/
theorem real_of_norm (x0 : FVec Ideal S512x2x128 .f32) (i : Fin 512) (v : Fin 2) (h : Ideal.sqrt (rowSq x0 i v) < ⊤) (d : Fin 128) :
    x0 (ix3 i v d) = (((x0 (ix3 i v d)).toReal : ℝ) : EReal) := by
  have hsq : ∀ y : EReal, 0 ≤ y * y := by
    intro y
    induction y using EReal.rec with
    | bot => simp
    | top => simp
    | coe r => exact_mod_cast mul_self_nonneg r
  have hinf : x0 (ix3 i v d) * x0 (ix3 i v d) ≠ ⊤ := by
    intro ht
    have hle : (⊤ : EReal) ≤ rowSq x0 i v := ht ▸ Finset.single_le_sum (f := fun d => x0 (ix3 i v d) * x0 (ix3 i v d)) (fun _ _ => hsq _) (Finset.mem_univ d)
    rw [top_le_iff.mp hle] at h
    exact lt_irrefl _ h
  refine (EReal.coe_toReal ?_ ?_).symm
  · intro ht; exact hinf (by rw [ht]; simp)
  · intro hb; exact hinf (by rw [hb]; simp)

/-- A word between 0 and 127, as the predicate compares it, is a class. -/
theorem class_of_word (w : BitVec 32) (h0 : IntOp.cmpi .sge w 0#32 = 1#1) (h1 : IntOp.cmpi .slt w 128#32 = 1#1) :
    ∃ k : Fin 128, w = BitVec.ofNat 32 k.val := by
  have a0 : (0#32).sle w = true := by
    by_contra hc
    have : IntOp.cmpi .sge w 0#32 = 0#1 := by unfold IntOp.cmpi; rw [Bool.not_eq_true _ |>.mp hc]; rfl
    rw [this] at h0; exact absurd h0 (by decide)
  have a1 : w.slt 128#32 = true := by
    by_contra hc
    have : IntOp.cmpi .slt w 128#32 = 0#1 := by unfold IntOp.cmpi; rw [Bool.not_eq_true _ |>.mp hc]; rfl
    rw [this] at h1; exact absurd h1 (by decide)
  have b0 : (0 : ℤ) ≤ w.toInt := by simpa [BitVec.sle] using a0
  have b1 : w.toInt < 128 := by simpa [BitVec.slt] using a1
  have hlt := w.isLt
  rw [BitVec.toInt_eq_toNat_cond] at b0 b1
  refine ⟨⟨w.toNat, by split_ifs at b0 b1 <;> omega⟩, ?_⟩
  simp

/-- What the precondition gives: real features whose row norms are zero or at least `eps`, labels that are classes, no sample in the cache. -/
theorem pre_gives [Cert.Pre_uncached_batch.Facts] (x0 : FVec Ideal S512x2x128 .f32) (x1 x2 : IVec S512 32) (x3 : FVec Ideal S100000x128 .f32) (x4 : IVec S100000 1)
    (h : fn x0 x1 x2 x3 x4 = fun _ => 1#1) :
    ∃ (f : Fin 512 → Fin 2 → Fin 128 → ℝ) (lab : Fin 512 → Fin 128),
      (∀ i v d, x0 (ix3 i v d) = ((f i v d : ℝ) : EReal))
      ∧ (∀ i v, (∑ d, f i v d * f i v d) = 0 ∨ eps ≤ Real.sqrt (∑ d, f i v d * f i v d))
      ∧ (∀ i, x1 (ix1 i) = BitVec.ofNat 32 (lab i).val)
      ∧ ∀ i, look x4 (x2 (ix1 i)) = 0#1 := by
  have hh := fun i v => fn_at x0 x1 x2 x3 x4 i v (congrFun h _)
  have hl := fun i => class_of_word (x1 (ix1 i)) (hh i 0).2.1.1 (hh i 0).2.1.2
  choose lab hlab using hl
  have hf : ∀ i v d, x0 (ix3 i v d) = (((x0 (ix3 i v d)).toReal : ℝ) : EReal) := fun i v d => real_of_norm x0 i v (hh i v).1.1 d
  refine ⟨fun i v d => (x0 (ix3 i v d)).toReal, lab, hf, fun i v => ?_, hlab, fun i => (hh i 0).2.2⟩
  have hS : rowSq x0 i v = ((∑ d, (x0 (ix3 i v d)).toReal * (x0 (ix3 i v d)).toReal : ℝ) : EReal) := by
    rw [← coe_sum]
    exact Finset.sum_congr rfl fun d _ => by rw [EReal.coe_mul, ← hf i v d]
  have hnn : 0 ≤ ∑ d, (x0 (ix3 i v d)).toReal * (x0 (ix3 i v d)).toReal := Finset.sum_nonneg fun _ _ => mul_self_nonneg _
  have hn := (hh i v).1.2
  rw [hS, sqrt_coe hnn] at hn
  rcases hn with hn | hn
  · exact Or.inl ((Real.sqrt_eq_zero hnn).mp (by exact_mod_cast hn))
  · exact Or.inr (by exact_mod_cast hn)

end Cert.Loss

end
-- ==== Proof.Agree.lean ====
/- Both programs' runs end with one number: the loss of the normalized rows. -/
module

public import proofs.«01_k».proof.Defs
public import proofs.«01_k».proof.Proof.RefRead
public import proofs.«01_k».proof.Proof.Pre
public import proofs.«01_k».proof.Proof.Gen.ReferenceIdeal.Run
public import Idealize.ShloMosaic.Adequacy
public import Idealize.ShloMosaic.Init

@[expose] public section

noncomputable section

namespace Cert.Loss

open Idealize.ShloMosaic Idealize.SL.Sem

attribute [local instance] Cert.KernelIdeal.Gen.facts Cert.ReferenceIdeal.Gen.facts preFacts

/-- The reference's result, read from arguments of which the precondition holds, is the word the kernel stores. -/
theorem value_agree (x0 : FVec Ideal Cert.KernelIdeal.S512x2x128 .f32) (x1 x2 : IVec Cert.KernelIdeal.S512 32)
    (x3 : FVec Ideal Cert.KernelIdeal.S100000x128 .f32) (x4 : IVec Cert.KernelIdeal.S100000 1)
    (h : Cert.Pre_uncached_batch.fn x0 x1 x2 x3 x4 = fun _ => 1#1) :
    Cert.ReferenceIdeal.Read.val_main_v122 (F := Ideal) x0 x1 x2 x3 x4
      = fun _ => Cert.KernelIdeal.Gen.word (Cert.KernelIdeal.Gen.view0 x0) (Cert.KernelIdeal.Gen.view1 x0) x1 (ix2 0 0) := by
  obtain ⟨f, lab, hX, hN, hL, hC⟩ := pre_gives x0 x1 x2 x3 x4 h
  rw [reference_value x0 x1 x2 x3 x4 f lab hX hN hL hC]
  exact funext fun _ => (kernel_value x0 x1 f lab hX hL (ix2 0 0)).symm

/-- The reference runs, keeps its arguments, and leaves every counter at zero. -/
theorem reference_frame : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The kernel and the reference end with equal results where the precondition holds. -/
theorem agree : Cert.algebraic_KernelIdeal_ReferenceIdeal_pre_uncached_batch := by
  intro m g m' g' hpre hm
  refine ⟨_, Cert.KernelIdeal.Gen.run_word (F := Ideal) m g, ?_⟩
  refine (θ_run Cert.ReferenceIdeal.defs _ _).mono (fun _ h c => ⟨((h c).1.trans (Cert.ReferenceIdeal.Read.val_main_v122_eq _)).trans ?_, (h c).2⟩)
    (Cert.ReferenceIdeal.Value.run (F := Ideal) m' g')
  obtain ⟨e0, e1, e2, e3, e4⟩ := hm c
  show Cert.ReferenceIdeal.Read.val_main_v122 (F := Ideal)
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4)) = _
  rw [e0, e1, e2, e3, e4]
  exact value_agree _ _ _ _ _ (hpre c)

/-- The named constants are the literals' values. -/
theorem named : Cert.preserves_Kernel_KernelIdeal :=
  ⟨IdealRules.named_const.statement Cert.KernelIdeal.κ "eps_sq" .f32 0x179ABE15#32 ((5316911940649 / 5316911983139663491615228241121378304 : ℝ) : EReal) rfl,
   IdealRules.named_const.statement Cert.KernelIdeal.κ "inv_temp" .f32 0x41649249#32 ((134217728 / 9395241 : ℝ) : EReal) rfl⟩

end Cert.Loss

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Agree
public import Idealize.ShloMosaic.Adequacy
public import Idealize.ShloMosaic.Init

@[expose] public section

noncomputable section

namespace Cert.Proof

open Idealize.ShloMosaic Idealize.SL.Sem Cert.Kernel

/-- Every claim of this certificate. -/
theorem claim : Cert.Claim :=
  ⟨Cert.Kernel.Gen.facts, Cert.KernelIdeal.Gen.facts, Cert.ReferenceIdeal.Gen.facts, Cert.Loss.preFacts,
    fun m ρ _ => Cert.Kernel.Gen.frame m ρ, fun m ρ _ => Cert.KernelIdeal.Gen.frame m ρ, fun m ρ _ => Cert.KernelIdeal.Gen.frame m ρ,
    Cert.Loss.reference_frame, fun m ρ _ => Cert.Loss.reference_frame m ρ (by trivial), Cert.Loss.named, Cert.Loss.agree⟩

end Cert.Proof

end
